-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_in_f32_range [hPre_gain_in_f32_range : Cert.Pre_gain_in_f32_range.Facts] (m : (ℓ : Loc Cert.KernelIdeal.nD Cert.KernelIdeal.τ Cert.KernelIdeal.sig) → Buf (Elt Ideal) ℓ) : Prop :=
  ∀ c : Dev Cert.KernelIdeal.nD,
    (Cert.Pre_gain_in_f32_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_in_f32_range [hPre_gain_in_f32_range : Cert.Pre_gain_in_f32_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_in_f32_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_in_f32_range [hKernelIdeal : Cert.KernelIdeal.Facts] [hPre_gain_in_f32_range : Cert.Pre_gain_in_f32_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_in_f32_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_in_f32_range [hReferenceIdeal : Cert.ReferenceIdeal.Facts] [hPre_gain_in_f32_range : Cert.Pre_gain_in_f32_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_in_f32_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_in_f32_range [hKernelIdeal : Cert.KernelIdeal.Facts] [hReferenceIdeal : Cert.ReferenceIdeal.Facts] [hPre_gain_in_f32_range : Cert.Pre_gain_in_f32_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_in_f32_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v40_0) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_in_f32_range : Cert.Pre_gain_in_f32_range.Facts),
    quiescent_Kernel (hKernel := hKernel)
    ∧ quiescent_KernelIdeal (hKernelIdeal := hKernelIdeal)
    ∧ quiescent_KernelIdeal_pre_gain_in_f32_range (hKernelIdeal := hKernelIdeal) (hPre_gain_in_f32_range := hPre_gain_in_f32_range)
    ∧ quiescent_ReferenceIdeal (hReferenceIdeal := hReferenceIdeal)
    ∧ quiescent_ReferenceIdeal_pre_gain_in_f32_range (hReferenceIdeal := hReferenceIdeal) (hPre_gain_in_f32_range := hPre_gain_in_f32_range)
    ∧ preserves_Kernel_KernelIdeal
    ∧ algebraic_KernelIdeal_ReferenceIdeal_pre_gain_in_f32_range (hKernelIdeal := hKernelIdeal) (hReferenceIdeal := hReferenceIdeal) (hPre_gain_in_f32_range := hPre_gain_in_f32_range)
-- ==== Pre_gain_in_f32_range.lean ====
abbrev S4x2048x4096 : Shape := ⟨3, ![4, 2048, 4096]⟩
abbrev S4x2048 : Shape := ⟨2, ![4, 2048]⟩
abbrev S4096 : Shape := ⟨1, ![4096]⟩
abbrev S4096x2304 : Shape := ⟨2, ![4096, 2304]⟩
abbrev S2304 : Shape := ⟨1, ![2304]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4x2048x4096 .bf16) (main_arg1 : IVec S4x2048 32) (main_arg2 : FVec F S4096 .f32) (main_arg3 : FVec F S4096x2304 .fp8e4m3) (main_arg4 : FVec F S2304 .f32) : IVec S4096 1 :=
  let main_v0 : FVec F S4096 .f32 := Host.absf main_arg2
  let main_cst : FVec F S_ .f32 := constant S_ .f32 0x7F7FFFFF#32
  let main_v1 : FVec F S4096 .f32 := broadcastInDim S4096 ![] bcast_S_S4096 main_cst
  let main_v2 : IVec S4096 1 := cmpf .ole main_v0 main_v1
  main_v2
-- ==== Kernel.lean ====
abbrev S4x2048x4096 : Shape := ⟨3, ![4, 2048, 4096]⟩
abbrev S4x2048 : Shape := ⟨2, ![4, 2048]⟩
abbrev S4096 : Shape := ⟨1, ![4096]⟩
abbrev S4096x2304 : Shape := ⟨2, ![4096, 2304]⟩
abbrev S2304 : Shape := ⟨1, ![2304]⟩
abbrev S64 : Shape := ⟨1, ![64]⟩
abbrev S_ : Shape := ⟨0, ![]⟩
abbrev S128 : Shape := ⟨1, ![128]⟩
abbrev S1x128 : Shape := ⟨2, ![1, 128]⟩
abbrev S8192x4096 : Shape := ⟨2, ![8192, 4096]⟩
abbrev S8192x1 : Shape := ⟨2, ![8192, 1]⟩
abbrev S1x4096 : Shape := ⟨2, ![1, 4096]⟩
abbrev S1x2304 : Shape := ⟨2, ![1, 2304]⟩
abbrev S8192x2048 : Shape := ⟨2, ![8192, 2048]⟩
abbrev S8192x128 : Shape := ⟨2, ![8192, 128]⟩
abbrev S512x4096 : Shape := ⟨2, ![512, 4096]⟩
abbrev S512x1 : Shape := ⟨2, ![512, 1]⟩
abbrev S512x2048 : Shape := ⟨2, ![512, 2048]⟩
abbrev S512x128 : Shape := ⟨2, ![512, 128]⟩
abbrev S512 : Shape := ⟨1, ![512]⟩
abbrev S512x2304 : Shape := ⟨2, ![512, 2304]⟩

abbrev nBuf : Space → Nat
  | .hbm => 30
  | .vmem => 18
  | .smem => 0
  | _ => 0

abbrev bufTy : (tb : Table) → Fin (tcTables nBuf tb) → BufTy
  | .hbm, ⟨0, _⟩ => ⟨S4x2048x4096, .bf16⟩
  | .hbm, ⟨1, _⟩ => ⟨S4x2048, .i32⟩
  | .hbm, ⟨2, _⟩ => ⟨S4096, .f32⟩
  | .hbm, ⟨3, _⟩ => ⟨S4096x2304, .fp8e4m3⟩
  | .hbm, ⟨4, _⟩ => ⟨S2304, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S8192x4096, .bf16⟩
  | .hbm, ⟨22, _⟩ => ⟨S8192x1, .i32⟩
  | .hbm, ⟨23, _⟩ => ⟨S1x4096, .f32⟩
  | .hbm, ⟨24, _⟩ => ⟨S1x2304, .f32⟩
  | .hbm, ⟨25, _⟩ => ⟨S8192x2048, .bf16⟩
  | .hbm, ⟨26, _⟩ => ⟨S8192x128, .bf16⟩
  | .hbm, ⟨27, _⟩ => ⟨S8192x128, .bf16⟩
  | .hbm, ⟨28, _⟩ => ⟨S8192x4096, .fp8e4m3⟩
  | .hbm, ⟨29, _⟩ => ⟨S8192x1, .f32⟩
  | .local _ .vmem, ⟨0, _⟩ => ⟨S512x4096, .bf16⟩
  | .local _ .vmem, ⟨1, _⟩ => ⟨S512x4096, .bf16⟩
  | .local _ .vmem, ⟨2, _⟩ => ⟨S512x1, .i32⟩
  | .local _ .vmem, ⟨3, _⟩ => ⟨S512x1, .i32⟩
  | .local _ .vmem, ⟨4, _⟩ => ⟨S1x4096, .f32⟩
  | .local _ .vmem, ⟨5, _⟩ => ⟨S4096x2304, .fp8e4m3⟩
  | .local _ .vmem, ⟨6, _⟩ => ⟨S1x2304, .f32⟩
  | .local _ .vmem, ⟨7, _⟩ => ⟨S1x128, .f32⟩
  | .local _ .vmem, ⟨8, _⟩ => ⟨S512x2048, .bf16⟩
  | .local _ .vmem, ⟨9, _⟩ => ⟨S512x2048, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x4096, .fp8e4m3⟩
  | .local _ .vmem, ⟨15, _⟩ => ⟨S512x4096, .fp8e4m3⟩
  | .local _ .vmem, ⟨16, _⟩ => ⟨S512x1, .f32⟩
  | .local _ .vmem, ⟨17, _⟩ => ⟨S512x1, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x2048x4096 : Shape := ⟨3, ![4, 2048, 4096]⟩
abbrev S4x2048 : Shape := ⟨2, ![4, 2048]⟩
abbrev S4096 : Shape := ⟨1, ![4096]⟩
abbrev S4096x2304 : Shape := ⟨2, ![4096, 2304]⟩
abbrev S2304 : Shape := ⟨1, ![2304]⟩
abbrev S_ : Shape := ⟨0, ![]⟩
abbrev S4x2048x1 : Shape := ⟨3, ![4, 2048, 1]⟩
abbrev S1x1x4096 : Shape := ⟨3, ![1, 1, 4096]⟩
abbrev S8192x4096 : Shape := ⟨2, ![8192, 4096]⟩
abbrev S8192x2304 : Shape := ⟨2, ![8192, 2304]⟩
abbrev S4x2048x2304 : Shape := ⟨3, ![4, 2048, 2304]⟩
abbrev S1x1x2304 : Shape := ⟨3, ![1, 1, 2304]⟩
abbrev S4x2048x2048 : Shape := ⟨3, ![4, 2048, 2048]⟩
abbrev S4x2048x16x128 : Shape := ⟨4, ![4, 2048, 16, 128]⟩
abbrev S4x2048x128 : Shape := ⟨3, ![4, 2048, 128]⟩
abbrev S4x2048x1x128 : Shape := ⟨4, ![4, 2048, 1, 128]⟩
abbrev S64 : Shape := ⟨1, ![64]⟩
abbrev S1x1x64 : Shape := ⟨3, ![1, 1, 64]⟩
abbrev S4x2048x64 : Shape := ⟨3, ![4, 2048, 64]⟩
abbrev S4x2048x1x64 : Shape := ⟨4, ![4, 2048, 1, 64]⟩
abbrev S4x2048x16x64 : Shape := ⟨4, ![4, 2048, 16, 64]⟩
abbrev S8192x2048 : Shape := ⟨2, ![8192, 2048]⟩
abbrev S8192x128 : Shape := ⟨2, ![8192, 128]⟩
abbrev S8192x1 : Shape := ⟨2, ![8192, 1]⟩

abbrev nBuf : Space → Nat
  | .hbm => 129
  | .vmem => 4
  | .smem => 0
  | _ => 0

abbrev hbmTy0_0 (i : Nat) : BufTy := match i % 128 with
  | 0 => ⟨S4x2048x4096, .bf16⟩
  | 1 => ⟨S4x2048, .i32⟩
  | 2 => ⟨S4096, .f32⟩
  | 3 => ⟨S4096x2304, .fp8e4m3⟩
  | 4 => ⟨S2304, .f32⟩
  | 5 => ⟨S4x2048x4096, .f32⟩
  | 6 => ⟨S4x2048x4096, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S4x2048x1, .f32⟩
  | 17 => ⟨S4x2048x4096, .f32⟩
  | 18 => ⟨S4x2048x4096, .f32⟩
  | 19 => ⟨S1x1x4096, .f32⟩
  | 20 => ⟨S4x2048x4096, .f32⟩
  | 21 => ⟨S4x2048x4096, .f32⟩
  | 22 => ⟨S4x2048x4096, .f32⟩
  | 23 => ⟨S_, .f32⟩
  | 24 => ⟨S4x2048, .f32⟩
  | 25 => ⟨S4x2048x1, .f32⟩
  | 26 => ⟨S_, .f32⟩
  | 27 => ⟨S4x2048x1, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048x1, .f32⟩
  | 40 => ⟨S4x2048x1, .i1⟩
  | 41 => ⟨S_, .f32⟩
  | 42 => ⟨S_, .f32⟩
  | 43 => ⟨S4x2048x1, .f32⟩
  | 44 => ⟨S4x2048x1, .f32⟩
  | 45 => ⟨S_, .f32⟩
  | 46 => ⟨S4x2048x1, .f32⟩
  | 47 => ⟨S4x2048x1, .i1⟩
  | 48 => ⟨S_, .f32⟩
  | 49 => ⟨S_, .f32⟩
  | 50 => ⟨S4x2048x1, .f32⟩
  | 51 => ⟨S4x2048x1, .f32⟩
  | 52 => ⟨S_, .f32⟩
  | 53 => ⟨S4x2048x1, .f32⟩
  | 54 => ⟨S4x2048x1, .f32⟩
  | 55 => ⟨S4x2048x1, .f32⟩
  | 56 => ⟨S_, .f32⟩
  | 57 => ⟨S4x2048x1, .f32⟩
  | 58 => ⟨S4x2048x1, .f32⟩
  | 59 => ⟨S4x2048x4096, .f32⟩
  | 60 => ⟨S4x2048x4096, .f32⟩
  | 61 => ⟨S8192x4096, .f32⟩
  | 62 => ⟨S8192x4096, .fp8e4m3⟩
  | 63 => ⟨S8192x2304, .f32⟩
  | 64 => ⟨S4x2048x2304, .f32⟩
  | 65 => ⟨S4x2048x2304, .f32⟩
  | 66 => ⟨S4x2048x2304, .f32⟩
  | 67 => ⟨S1x1x2304, .f32⟩
  | 68 => ⟨S4x2048x2304, .f32⟩
  | 69 => ⟨S4x2048x2304, .f32⟩
  | 70 => ⟨S4x2048x2048, .f32⟩
  | 71 => ⟨S4x2048x16x128, .f32⟩
  | 72 => ⟨S4x2048x128, .f32⟩
  | 73 => ⟨S4x2048x1x128, .f32⟩
  | 74 => ⟨S4x2048x128, .f32⟩
  | 75 => ⟨S4x2048x1x128, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S4x2048, .f32⟩
  | 91 => ⟨S4x2048x1, .f32⟩
  | 92 => ⟨S1x1x64, .f32⟩
  | 93 => ⟨S4x2048x64, .f32⟩
  | 94 => ⟨S4x2048x64, .f32⟩
  | 95 => ⟨S4x2048x64, .f32⟩
  | 96 => ⟨S4x2048x64, .f32⟩
  | 97 => ⟨S4x2048x1x64, .f32⟩
  | 98 => ⟨S4x2048x64, .f32⟩
  | 99 => ⟨S4x2048x1x64, .f32⟩
  | 100 => ⟨S4x2048x16x64, .f32⟩
  | 101 => ⟨S4x2048x16x64, .f32⟩
  | 102 => ⟨S4x2048x16x64, .f32⟩
  | 103 => ⟨S4x2048x16x64, .f32⟩
  | 104 => ⟨S4x2048x16x64, .f32⟩
  | 105 => ⟨S4x2048x16x64, .f32⟩
  | 106 => ⟨S4x2048x16x64, .f32⟩
  | 107 => ⟨S4x2048x16x64, .f32⟩
  | 108 => ⟨S4x2048x16x64, .f32⟩
  | 109 => ⟨S4x2048x16x64, .f32⟩
  | 110 => ⟨S4x2048x16x64, .f32⟩
  | 111 => ⟨S4x2048x16x64, .f32⟩
  | 112 => ⟨S4x2048x16x128, .f32⟩
  | 113 => ⟨S4x2048x16x128, .bf16⟩
  | 114 => ⟨S4x2048x1x64, .f32⟩
  | 115 => ⟨S4x2048x1x64, .f32⟩
  | 116 => ⟨S4x2048x1x64, .f32⟩
  | 117 => ⟨S4x2048x1x64, .f32⟩
  | 118 => ⟨S4x2048x1x64, .f32⟩
  | 119 => ⟨S4x2048x1x64, .f32⟩
  | 120 => ⟨S4x2048x1x64, .f32⟩
  | 121 => ⟨S4x2048x1x64, .f32⟩
  | 122 => ⟨S4x2048x1x128, .f32⟩
  | 123 => ⟨S4x2048x1x128, .bf16⟩
  | 124 => ⟨S4x2048x1x128, .bf16⟩
  | 125 => ⟨S8192x2048, .bf16⟩
  | 126 => ⟨S8192x128, .bf16⟩
  | 127 => ⟨S8192x128, .bf16⟩
  | _ => ⟨S4x2048x4096, .bf16⟩

abbrev hbmTy0_1 (i : Nat) : BufTy := match i % 128 with
  | 0 => ⟨S8192x1, .f32⟩
  | _ => ⟨S4x2048x4096, .bf16⟩

abbrev hbmTy (i : Nat) : BufTy := match i / 128 with
  | 0 => hbmTy0_0 i
  | 1 => hbmTy0_1 i
  | _ => ⟨S4x2048x4096, .bf16⟩

abbrev bufTy : (tb : Table) → Fin (tcTables nBuf tb) → BufTy
  | .hbm, ⟨i, _⟩ => hbmTy i
  | .local _ .vmem, ⟨0, _⟩ => ⟨S8192x4096, .f32⟩
  | .local _ .vmem, ⟨1, _⟩ => ⟨S4096x2304, .fp8e4m3⟩
  | .local _ .vmem, ⟨2, _⟩ => ⟨S8192x4096, .fp8e4m3⟩
  | .local _ .vmem, ⟨3, _⟩ => ⟨S8192x2304, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelBlocks.lean ====
/-
  The ideal kernel's run, block by block. `run_blocks` names what each result array holds after the run. Per result:
  `flushed` is what one grid point writes back, as the body's result of that point's input blocks; `disjoint` says that
  two points' blocks share no index; `blocks` says that a block of the final array is what its point wrote; `entry`
  says that an index in no block keeps what it held before.
-/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8192x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 16 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8192x4096.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 16 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8192x1.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v16_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v16_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v16_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v16_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v16_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v16_0) = (dats m 0 c).arrAt 6 cfg0.N
      ∧ r.2.mem ((c : Thread nD τ).loc main_v16_1) = (dats m 0 c).arrAt 7 cfg0.N
      ∧ r.2.mem ((c : Thread nD τ).loc main_v16_2) = (dats m 0 c).arrAt 8 cfg0.N
      ∧ r.2.mem ((c : Thread nD τ).loc main_v16_3) = (dats m 0 c).arrAt 9 cfg0.N
      ∧ r.2.mem ((c : Thread nD τ).loc main_v16_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c⟩)
    (run_main m ρ)

/-! ## No closed form for the canon of this window's pieces: by hand. Prove the window's value by hand over `Value.run_blocks`. -/

/-! ## No closed form for the canon of this window's pieces: by hand. Prove the window's value by hand over `Value.run_blocks`. -/

/-! ## No closed form for the canon of this window's pieces: by hand. Prove the window's value by hand over `Value.run_blocks`. -/

/-! ## No closed form for the canon of this window's pieces: by hand. Prove the window's value by hand over `Value.run_blocks`. -/

/-! ## No closed form for the canon of this window's pieces: by hand. Prove the window's value by hand over `Value.run_blocks`. -/

end Cert.KernelIdeal.Value

end
-- ==== Proof.Scale.lean ====
/-
  The power-of-two scale of one token row, over the extended reals.

  The kernel finds the exponent field of `t` (the row's largest magnitude times the constant nearest 1/448) by comparing
  `t` with the floats whose bits are a candidate field shifted into place, and builds the scale and its inverse from
  the field's bits. The reference takes the exponent to be `floor (log t / log 2) + 1`, zero below the smallest normal
  float, and raises 2 to it. This file proves the two equal for `0 ≤ t < 2^126`.
-/
module

public import Idealize.ShloMosaic.PureOps.Ideal.Laws
public import Mathlib.Analysis.SpecialFunctions.Log.Basic
public import Mathlib.Analysis.SpecialFunctions.Pow.Real

@[expose] public section

noncomputable section

namespace Cert.Scale

open Idealize.ShloMosaic

/-! ## The two computations -/

/-- One step of the kernel's search: add `b` to the field when `t` is at least the float of the larger field. -/
def step (t : EReal) (f b : BitVec 32) : BitVec 32 :=
  IntOp.addi f (Scalar.select (Ideal.cmp .oge t (Ideal.ofBits .f32 (IntOp.shli .vector (IntOp.addi f b) 23#32))) b 0#32)

/-- The kernel's exponent field of `t`. -/
def field (t : EReal) : BitVec 32 :=
  step t (step t (step t (step t (step t (step t (step t (step t 0#32 128#32) 64#32) 32#32) 16#32) 8#32) 4#32) 2#32) 1#32

/-- The kernel's exponent: 0 for a field of 0 or 255 or for a zero row, else the field less 126. -/
def kExp (a t : EReal) : BitVec 32 :=
  Scalar.select (IntOp.ori (IntOp.ori (IntOp.cmpi .eq (field t) 0#32) (IntOp.cmpi .eq (field t) 255#32))
    (Ideal.cmp .oeq a (Ideal.ofBits .f32 0x00000000#32))) 0#32 (IntOp.subi (field t) 126#32)

/-- The kernel's scale, built from the exponent's bits. -/
def kScale (a t : EReal) : EReal := Ideal.ofBits .f32 (IntOp.shli .vector (IntOp.addi 127#32 (kExp a t)) 23#32)

/-- The kernel's inverse scale, built from the exponent's bits. -/
def kInv (a t : EReal) : EReal := Ideal.ofBits .f32 (IntOp.shli .vector (IntOp.subi 127#32 (kExp a t)) 23#32)

/-- The reference's exponent. -/
def rExp (a t : EReal) : EReal :=
  Scalar.select (Ideal.cmp .oeq a (Ideal.ofBits .f32 0x00000000#32)) (Ideal.ofBits .f32 0x00000000#32)
    (Scalar.select (Ideal.cmp .olt t (Ideal.ofBits .f32 0x00800000#32)) (Ideal.ofBits .f32 0x00000000#32)
      (Ideal.liftRound Int.floor (Ideal.div (Ideal.log t) (Ideal.log (Ideal.ofBits .f32 0x40000000#32)))
        + Ideal.ofBits .f32 0x3F800000#32))

/-- The reference's scale. -/
def rScale (a t : EReal) : EReal := Ideal.pow (Ideal.ofBits .f32 0x40000000#32) (rExp a t)

/-- The reference's inverse scale. -/
def rInv (a t : EReal) : EReal := Ideal.pow (Ideal.ofBits .f32 0x40000000#32) (-(rExp a t))

/-! ## Constants -/

/-- The float `2.0`. -/
theorem ofBits_two : Ideal.ofBits .f32 0x40000000#32 = ((2 : ℝ) : EReal) := by
  simp [Ideal.ofBits, Ideal.ieee, -EReal.coe_mul]; norm_num

/-- The float `1.0`. -/
theorem ofBits_one : Ideal.ofBits .f32 0x3F800000#32 = ((1 : ℝ) : EReal) := by
  simp [Ideal.ofBits, Ideal.ieee, -EReal.coe_mul]; norm_num

/-- The float `0.0`. -/
theorem ofBits_zero : Ideal.ofBits .f32 0x00000000#32 = ((0 : ℝ) : EReal) := by
  simp [Ideal.ofBits, Ideal.ieee]

/-- The smallest normal float is `2^(-126)`. -/
theorem ofBits_tiny : Ideal.ofBits .f32 0x00800000#32 = (((2 : ℝ) ^ (-126 : ℤ) : ℝ) : EReal) := by
  simp [Ideal.ofBits, Ideal.ieee, -EReal.coe_mul]; norm_num

/-! ## A float of a bare exponent field -/

/-- The bits of a field shifted into place: no sign, that exponent, no fraction. -/
theorem shifted_bits : ∀ c : Fin 256,
    ((IntOp.shli .vector (BitVec.ofNat 32 c.val) 23#32).extractLsb' (8 + 23) 1 == 1#1) = false
    ∧ ((IntOp.shli .vector (BitVec.ofNat 32 c.val) 23#32).extractLsb' 23 8).toNat = c.val
    ∧ ((IntOp.shli .vector (BitVec.ofNat 32 c.val) 23#32).extractLsb' 0 23).toNat = 0 := by decide +kernel

/-- A word with no sign and no fraction denotes a power of two, for an exponent field from 1 to 254. -/
theorem ofBits_mid (b : BitVec 32) (c : ℕ) (hs : (b.extractLsb' (8 + 23) 1 == 1#1) = false)
    (he : (b.extractLsb' 23 8).toNat = c) (hf : (b.extractLsb' 0 23).toNat = 0) (h1 : 1 ≤ c) (h2 : c ≤ 254) :
    Ideal.ofBits .f32 b = (((2 : ℝ) ^ ((c : ℤ) - 127) : ℝ) : EReal) := by
  have e : Ideal.ofBits .f32 b = Ideal.ieee 8 23 b := rfl
  rw [e, Ideal.ieee]
  simp only [hs, he, hf]
  rw [if_neg (by norm_num; omega), if_neg (by omega)]
  refine congrArg _ ?_
  rw [if_neg (by simp), one_mul]
  have h23 : ((2 ^ 23 + 0 : ℕ) : ℝ) = (2 : ℝ) ^ (23 : ℤ) := by norm_num
  rw [h23, ← zpow_add₀ (by norm_num)]
  refine congrArg _ ?_
  norm_num

/-- A word with no sign and no fraction is infinite for exponent field 255. -/
theorem ofBits_top (b : BitVec 32) (hs : (b.extractLsb' (8 + 23) 1 == 1#1) = false)
    (he : (b.extractLsb' 23 8).toNat = 255) (hf : (b.extractLsb' 0 23).toNat = 0) :
    Ideal.ofBits .f32 b = ⊤ := by
  have e : Ideal.ofBits .f32 b = Ideal.ieee 8 23 b := rfl
  rw [e, Ideal.ieee]
  simp only [hs, he, hf]
  rw [if_pos (by norm_num), if_pos trivial, if_neg (by simp)]

/-- The float of field `c`, for `1 ≤ c ≤ 254`, is `2^(c - 127)`. -/
theorem power_mid (c : ℕ) (h1 : 1 ≤ c) (h2 : c ≤ 254) :
    Ideal.ofBits .f32 (IntOp.shli .vector (BitVec.ofNat 32 c) 23#32) = (((2 : ℝ) ^ ((c : ℤ) - 127) : ℝ) : EReal) := by
  obtain ⟨hs, he, hf⟩ := shifted_bits ⟨c, by omega⟩
  exact ofBits_mid _ c hs he hf h1 h2

/-- The float of field 255 is infinite. -/
theorem power_top : Ideal.ofBits .f32 (IntOp.shli .vector (BitVec.ofNat 32 255) 23#32) = ⊤ := by
  obtain ⟨hs, he, hf⟩ := shifted_bits ⟨255, by omega⟩
  exact ofBits_top _ hs he hf

/-! ## The search -/

/-- The search on natural numbers, for a threshold `K`. -/
def stepN (K f b : ℕ) : ℕ := f + if f + b ≤ K then b else 0

/-- The search on natural numbers finds the threshold. -/
theorem searchN : ∀ K : Fin 256, stepN K (stepN K (stepN K (stepN K (stepN K (stepN K (stepN K (stepN K 0 128) 64) 32) 16) 8) 4) 2) 1 = K := by
  decide +kernel

/-- A step from a small field `f` by `b`, when `t` is at least the float of field `c` exactly for `c ≤ K`. -/
theorem step_eq (t : EReal) (K : ℕ)
    (hK : ∀ c : ℕ, 1 ≤ c → c ≤ 255 → (Ideal.ofBits .f32 (IntOp.shli .vector (BitVec.ofNat 32 c) 23#32) ≤ t ↔ c ≤ K))
    (f b : ℕ) (h1 : 1 ≤ b) (h2 : f + b ≤ 255) :
    step t (BitVec.ofNat 32 f) (BitVec.ofNat 32 b) = BitVec.ofNat 32 (stepN K f b) := by
  unfold step stepN
  have e : IntOp.addi (BitVec.ofNat 32 f) (BitVec.ofNat 32 b) = BitVec.ofNat 32 (f + b) := (BitVec.ofNat_add f b).symm
  rw [e]
  by_cases h : f + b ≤ K
  · rw [if_pos h]
    have : Ideal.cmp .oge t (Ideal.ofBits .f32 (IntOp.shli .vector (BitVec.ofNat 32 (f + b)) 23#32)) = 1#1 := by
      simp [Ideal.cmp, (hK (f + b) (by omega) h2).2 h]
    rw [this]
    exact e
  · rw [if_neg h]
    have : Ideal.cmp .oge t (Ideal.ofBits .f32 (IntOp.shli .vector (BitVec.ofNat 32 (f + b)) 23#32)) = 0#1 := by
      have := mt (hK (f + b) (by omega) h2).1 h
      simp only [Ideal.cmp, decide_eq_false this]; rfl
    rw [this]
    show BitVec.ofNat 32 f + 0#32 = _
    simp

/-- A step moves the field up by at most `b`. -/
theorem stepN_le (K f b : ℕ) : stepN K f b ≤ f + b := by unfold stepN; split <;> omega

/-- The kernel's search finds the threshold. -/
theorem field_eq (t : EReal) (K : ℕ) (hK255 : K ≤ 255)
    (hK : ∀ c : ℕ, 1 ≤ c → c ≤ 255 → (Ideal.ofBits .f32 (IntOp.shli .vector (BitVec.ofNat 32 c) 23#32) ≤ t ↔ c ≤ K)) :
    field t = BitVec.ofNat 32 K := by
  have h := searchN ⟨K, by omega⟩
  simp only at h
  have s := step_eq t K hK
  have l1 := stepN_le K 0 128
  have l2 := stepN_le K (stepN K 0 128) 64
  have l3 := stepN_le K (stepN K (stepN K 0 128) 64) 32
  have l4 := stepN_le K (stepN K (stepN K (stepN K 0 128) 64) 32) 16
  have l5 := stepN_le K (stepN K (stepN K (stepN K (stepN K 0 128) 64) 32) 16) 8
  have l6 := stepN_le K (stepN K (stepN K (stepN K (stepN K (stepN K 0 128) 64) 32) 16) 8) 4
  have l7 := stepN_le K (stepN K (stepN K (stepN K (stepN K (stepN K (stepN K 0 128) 64) 32) 16) 8) 4) 2
  unfold field
  rw [s 0 128 (by omega) (by omega), s _ 64 (by omega) (by omega), s _ 32 (by omega) (by omega), s _ 16 (by omega) (by omega),
    s _ 8 (by omega) (by omega), s _ 4 (by omega) (by omega), s _ 2 (by omega) (by omega), s _ 1 (by omega) (by omega), h]

/-! ## The scales -/

/-- The kernel's exponent from the threshold, at a row that is not all zero. -/
theorem kExp_eq (a t : EReal) (K : ℕ) (hK252 : K ≤ 252) (hf : field t = BitVec.ofNat 32 K) (ha : a = 0 → K = 0) :
    kExp a t = if K = 0 then 0#32 else BitVec.ofNat 32 K - 126#32 := by
  unfold kExp
  rw [hf, ofBits_zero]
  by_cases h0 : K = 0
  · subst h0
    rw [if_pos rfl]
    have : IntOp.ori (IntOp.ori (IntOp.cmpi .eq (BitVec.ofNat 32 0) 0#32) (IntOp.cmpi .eq (BitVec.ofNat 32 0) 255#32))
        (Ideal.cmp .oeq a ((0 : ℝ) : EReal)) = 1#1 := by
      have : ∀ b : BitVec 1, IntOp.ori (IntOp.ori (IntOp.cmpi .eq (BitVec.ofNat 32 0) 0#32) (IntOp.cmpi .eq (BitVec.ofNat 32 0) 255#32)) b = 1#1 := by
        decide
      exact this _
    rw [this]
    rfl
  · rw [if_neg h0]
    have ha' : ¬ a = ((0 : ℝ) : EReal) := fun e => h0 (ha (by simpa using e))
    have hc : Ideal.cmp .oeq a ((0 : ℝ) : EReal) = 0#1 := by
      simp only [Ideal.cmp, decide_eq_false ha']; rfl
    rw [hc]
    have : ∀ k : Fin 253, k.val ≠ 0 → IntOp.ori (IntOp.ori (IntOp.cmpi .eq (BitVec.ofNat 32 k.val) 0#32) (IntOp.cmpi .eq (BitVec.ofNat 32 k.val) 255#32)) 0#1 = 0#1 := by
      decide +kernel
    rw [this ⟨K, by omega⟩ h0]
    rfl

/-- The kernel's scale and inverse scale from the threshold. -/
theorem kScale_kInv (a t : EReal) (K : ℕ) (hK252 : K ≤ 252) (hf : field t = BitVec.ofNat 32 K) (ha : a = 0 → K = 0) :
    kScale a t = (((2 : ℝ) ^ (if K = 0 then (0 : ℤ) else (K : ℤ) - 126) : ℝ) : EReal)
    ∧ kInv a t = (((2 : ℝ) ^ (-(if K = 0 then (0 : ℤ) else (K : ℤ) - 126)) : ℝ) : EReal) := by
  have e1 : ∀ k : Fin 253, IntOp.addi 127#32 (if k.val = 0 then 0#32 else BitVec.ofNat 32 k.val - 126#32)
      = BitVec.ofNat 32 (if k.val = 0 then 127 else k.val + 1) := by decide +kernel
  have e2 : ∀ k : Fin 253, IntOp.subi 127#32 (if k.val = 0 then 0#32 else BitVec.ofNat 32 k.val - 126#32)
      = BitVec.ofNat 32 (if k.val = 0 then 127 else 253 - k.val) := by decide +kernel
  unfold kScale kInv
  rw [kExp_eq a t K hK252 hf ha]
  have e1' := e1 ⟨K, by omega⟩
  have e2' := e2 ⟨K, by omega⟩
  simp only at e1' e2'
  rw [e1', e2', power_mid _ (by split <;> omega) (by split <;> omega), power_mid _ (by split <;> omega) (by split <;> omega)]
  constructor
  · congr 2; split <;> push_cast <;> omega
  · congr 2; split
    · norm_num
    · push_cast [Nat.cast_sub (show K ≤ 253 by omega)]; omega

/-- The threshold of a real `r` in `[0, 2^126)`, and the reference's exponent by it. -/
theorem exists_threshold (a : EReal) (r : ℝ) (h0 : 0 ≤ r) (h1 : r < (2 : ℝ) ^ (126 : ℤ)) (ha : a = 0 → r = 0) :
    ∃ K : ℕ, K ≤ 252
      ∧ (∀ c : ℕ, 1 ≤ c → c ≤ 255 → (Ideal.ofBits .f32 (IntOp.shli .vector (BitVec.ofNat 32 c) 23#32) ≤ (r : EReal) ↔ c ≤ K))
      ∧ (a = 0 → K = 0)
      ∧ rExp a r = (((if K = 0 then (0 : ℤ) else (K : ℤ) - 126 : ℤ) : ℝ) : EReal) := by
  have htop : ∀ K : ℕ, K ≤ 252 → (Ideal.ofBits .f32 (IntOp.shli .vector (BitVec.ofNat 32 255) 23#32) ≤ (r : EReal) ↔ 255 ≤ K) := by
    intro K hK
    rw [power_top]
    simp only [top_le_iff, EReal.coe_ne_top, false_iff]
    omega
  by_cases hr : r < (2 : ℝ) ^ (-126 : ℤ)
  · refine ⟨0, by omega, fun c hc1 hc2 => ?_, fun _ => rfl, ?_⟩
    · by_cases hc : c = 255
      · subst hc; exact htop 0 (by omega)
      · rw [power_mid c hc1 (by omega), EReal.coe_le_coe_iff]
        have : (2 : ℝ) ^ (-126 : ℤ) ≤ (2 : ℝ) ^ ((c : ℤ) - 127) := zpow_le_zpow_right₀ (by norm_num) (by omega)
        constructor
        · intro h; linarith
        · intro h; omega
    · unfold rExp
      rw [ofBits_zero, ofBits_tiny]
      have : Ideal.cmp .olt (r : EReal) (((2 : ℝ) ^ (-126 : ℤ) : ℝ) : EReal) = 1#1 := by
        have : (r : EReal) < (((2 : ℝ) ^ (-126 : ℤ) : ℝ) : EReal) := EReal.coe_lt_coe_iff.2 hr
        simp only [Ideal.cmp, decide_eq_true this]; rfl
      rw [this, if_pos rfl]
      have hz : ((((0 : ℤ) : ℝ)) : EReal) = ((0 : ℝ) : EReal) := by simp
      rw [hz]
      generalize Ideal.cmp .oeq a ((0 : ℝ) : EReal) = b
      show Scalar.select b ((0 : ℝ) : EReal) ((0 : ℝ) : EReal) = _
      unfold Scalar.select
      split <;> rfl
  · have hr' : (2 : ℝ) ^ (-126 : ℤ) ≤ r := not_lt.1 hr
    have hpos : 0 < r := lt_of_lt_of_le (by positivity) hr'
    have hl2 : (0 : ℝ) < Real.log 2 := Real.log_pos (by norm_num)
    obtain ⟨L, hL⟩ : ∃ L : ℤ, L = ⌊Real.log r * (1 / Real.log 2)⌋ := ⟨_, rfl⟩
    have key : ∀ x : ℤ, (2 : ℝ) ^ x ≤ r ↔ x ≤ L := fun x => by
      rw [hL, Int.le_floor, mul_one_div, le_div_iff₀ hl2, ← Real.log_zpow, Real.log_le_log_iff (by positivity) hpos]
    have hlo : -126 ≤ L := (key _).1 hr'
    have hhi : L < 126 := by
      by_contra h
      have := (key 126).2 (by omega)
      linarith
    have ha0 : a ≠ 0 := fun e => by have := ha e; linarith
    obtain ⟨K, hKe⟩ : ∃ K : ℕ, (K : ℤ) = L + 127 := ⟨(L + 127).toNat, by omega⟩
    refine ⟨K, by omega, fun c hc1 hc2 => ?_, fun e => absurd e ha0, ?_⟩
    · by_cases hc : c = 255
      · subst hc; exact htop K (by omega)
      · rw [power_mid c hc1 (by omega), EReal.coe_le_coe_iff, key]; omega
    · rw [if_neg (by omega)]
      unfold rExp
      rw [ofBits_zero, ofBits_tiny, ofBits_one, ofBits_two]
      have c1 : Ideal.cmp .oeq a ((0 : ℝ) : EReal) = 0#1 := by
        have : ¬ a = ((0 : ℝ) : EReal) := by simpa using ha0
        simp only [Ideal.cmp, decide_eq_false this]; rfl
      have c2 : Ideal.cmp .olt (r : EReal) (((2 : ℝ) ^ (-126 : ℤ) : ℝ) : EReal) = 0#1 := by
        have : ¬ (r : EReal) < (((2 : ℝ) ^ (-126 : ℤ) : ℝ) : EReal) := fun h => hr (EReal.coe_lt_coe_iff.1 h)
        simp only [Ideal.cmp, decide_eq_false this]; rfl
      rw [c1, c2]
      show Ideal.liftRound Int.floor (Ideal.div (Ideal.log r) (Ideal.log ((2 : ℝ) : EReal))) + ((1 : ℝ) : EReal) = _
      have l1 : Ideal.log (r : EReal) = ((Real.log r : ℝ) : EReal) := by
        show (if r ≤ 0 then (⊥ : EReal) else _) = _
        rw [if_neg (by linarith)]
      have l2 : Ideal.log ((2 : ℝ) : EReal) = ((Real.log 2 : ℝ) : EReal) := by
        show (if (2 : ℝ) ≤ 0 then (⊥ : EReal) else _) = _
        rw [if_neg (by norm_num)]
      rw [l1, l2, Ideal.div_coe (ne_of_gt hl2), ← EReal.coe_mul]
      show (((⌊Real.log r * (1 / Real.log 2)⌋ : ℤ) : ℝ) : EReal) + ((1 : ℝ) : EReal) = _
      rw [← hL, ← EReal.coe_add]
      congr 1
      have : ((K : ℤ) : ℝ) - 126 = (L : ℝ) + 1 := by rw [hKe]; push_cast; ring
      push_cast at this ⊢
      linarith

/-- **The kernel's scale and inverse scale are the reference's**, for `0 ≤ t < 2^126` that is zero on a zero row. -/
theorem scale_eq (a t : EReal) (h0 : 0 ≤ t) (h1 : t < (((2 : ℝ) ^ (126 : ℤ) : ℝ) : EReal)) (ha : a = 0 → t = 0) :
    kScale a t = rScale a t ∧ kInv a t = rInv a t := by
  obtain ⟨r, rfl⟩ : ∃ r : ℝ, t = (r : EReal) := by
    induction t using EReal.rec with
    | bot => simp at h0
    | top => exact absurd h1 (not_lt.mpr le_top)
    | coe r => exact ⟨r, rfl⟩
  obtain ⟨K, hK, hth, hz, hE⟩ := exists_threshold a r (by exact_mod_cast h0) (EReal.coe_lt_coe_iff.1 h1)
    (fun e => by exact_mod_cast ha e)
  have hf := field_eq r K (by omega) hth
  obtain ⟨s1, s2⟩ := kScale_kInv a r K hK hf hz
  rw [s1, s2]
  unfold rScale rInv
  rw [hE, ofBits_two]
  constructor
  · show _ = ((Real.rpow 2 _ : ℝ) : EReal)
    congr 1
    exact (Real.rpow_intCast 2 _).symm
  · rw [← EReal.coe_neg]
    show _ = ((Real.rpow 2 _ : ℝ) : EReal)
    congr 1
    have := (Real.rpow_intCast 2 (-(if K = 0 then (0 : ℤ) else (K : ℤ) - 126))).symm
    push_cast at this ⊢
    exact this

end Cert.Scale

end
-- ==== Proof.Row.lean ====
/-
  One token row: its normalised values, its largest magnitude and the bound on it that keeps the row's scale an ordinary
  power of two. Everything is over the extended reals, for a row of 4096 values `X` and gains `G`.
-/
module

public import proofs.«01_k».proof.Proof.Scale

@[expose] public section

noncomputable section

namespace Cert.Row

open Idealize.ShloMosaic
open scoped BigOperators

/-! ## Definitions -/

/-- The row's sum of squares. -/
def sumSq (X : Fin 4096 → EReal) : EReal := ∑ d : Fin 4096, X d * X d

/-- The normalised row: each value times the reciprocal root of the mean square plus epsilon, times its gain. -/
def h (X G : Fin 4096 → EReal) (d : Fin 4096) : EReal :=
  X d * Ideal.rsqrt (sumSq X * Ideal.ofBits .f32 0x39800000#32 + Ideal.ofBits .f32 0x358637BD#32) * G d

/-- The row's largest magnitude. -/
def amax (X G : Fin 4096 → EReal) : EReal :=
  Finset.univ.fold max (Ideal.ofBits .f32 0xFF800000#32) fun d => max (h X G d) (-(h X G d))

/-- The largest magnitude times the constant nearest 1/448. -/
def amaxT (X G : Fin 4096 → EReal) : EReal := amax X G * Ideal.ofBits .f32 0x3B124925#32

/-- The row's scale. -/
def scale (X G : Fin 4096 → EReal) : EReal := Scale.kScale (amax X G) (amaxT X G)

/-- The row's inverse scale. -/
def inv (X G : Fin 4096 → EReal) : EReal := Scale.kInv (amax X G) (amaxT X G)

/-- The row's quantised values, clamped to plus or minus 448. -/
def code (X G : Fin 4096 → EReal) (d : Fin 4096) : EReal :=
  min (Ideal.ofBits .f32 0x43E00000#32) (max (Ideal.ofBits .f32 0xC3E00000#32) (h X G d * inv X G))

/-! ## Constants -/

/-- The float of `1/4096`. -/
theorem ofBits_inv4096 : Ideal.ofBits .f32 0x39800000#32 = ((1 / 4096 : ℝ) : EReal) := by
  simp [Ideal.ofBits, Ideal.ieee, -EReal.coe_mul]; norm_num

/-- The float `4096.0`. -/
theorem ofBits_4096 : Ideal.ofBits .f32 0x45800000#32 = ((4096 : ℝ) : EReal) := by
  simp [Ideal.ofBits, Ideal.ieee, -EReal.coe_mul]; norm_num

/-- The float of the epsilon is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The float nearest 1/448 is a real between 0 and 1/300. -/
theorem ofBits_c : ∃ e : ℝ, 0 < e ∧ e ≤ 1 / 300 ∧ Ideal.ofBits .f32 0x3B124925#32 = (e : EReal) := by
  refine ⟨_, ?_, ?_, by simp [Ideal.ofBits, Ideal.ieee, -EReal.coe_mul]; rfl⟩
  · positivity
  · norm_num

/-- The largest finite float is a real below `2^128`. -/
theorem ofBits_max : ∃ e : ℝ, 0 < e ∧ e ≤ (2 : ℝ) ^ (128 : ℤ) ∧ Ideal.ofBits .f32 0x7F7FFFFF#32 = (e : EReal) := by
  refine ⟨_, ?_, ?_, by simp [Ideal.ofBits, Ideal.ieee, -EReal.coe_mul]; rfl⟩
  · positivity
  · norm_num

/-- The float the maximum starts from is the least extended real. -/
theorem ofBits_neg_inf : Ideal.ofBits .f32 0xFF800000#32 = ⊥ := by
  simp [Ideal.ofBits, Ideal.ieee]

/-! ## The mean -/

/-- Dividing the sum by 4096 is multiplying it by the float of 1/4096. -/
theorem div_4096 (s : EReal) : Ideal.div s (Ideal.ofBits .f32 0x45800000#32) = s * Ideal.ofBits .f32 0x39800000#32 := by
  rw [ofBits_4096, ofBits_inv4096, Ideal.div_coe (by norm_num)]

/-! ## The bound -/

/-- The larger of two reals, as extended reals. -/
theorem coe_max' (a b : ℝ) : ((max a b : ℝ) : EReal) = max (a : EReal) (b : EReal) :=
  EReal.coe_strictMono.monotone.map_max

/-- A square is not negative. -/
theorem sq_nonneg' (x : EReal) : 0 ≤ x * x := by
  induction x using EReal.rec with
  | bot => simp
  | top => simp
  | coe r => rw [← EReal.coe_mul]; exact_mod_cast mul_self_nonneg r

/-- The square of a value is at most the row's sum of squares. -/
theorem sq_le_sumSq (X : Fin 4096 → EReal) (d : Fin 4096) : X d * X d ≤ sumSq X :=
  Finset.single_le_sum (f := fun d => X d * X d) (fun i _ => sq_nonneg' (X i)) (Finset.mem_univ d)

/-- The reciprocal root times any value of the row is at most 64 in magnitude. -/
theorem normed_bound (X : Fin 4096 → EReal) (d : Fin 4096) :
    ∃ r : ℝ, |r| ≤ 64 ∧
      X d * Ideal.rsqrt (sumSq X * Ideal.ofBits .f32 0x39800000#32 + Ideal.ofBits .f32 0x358637BD#32) = (r : EReal) := by
  obtain ⟨e, he, hE⟩ := ofBits_eps
  rw [ofBits_inv4096, hE]
  have hle := sq_le_sumSq X d
  have hnn : 0 ≤ sumSq X := le_trans (sq_nonneg' (X d)) hle
  generalize sumSq X = S at hle hnn
  induction S using EReal.rec with
  | bot => simp at hnn
  | top =>
    refine ⟨0, by norm_num, ?_⟩
    have : (⊤ : EReal) * ((1 / 4096 : ℝ) : EReal) + (e : EReal) = ⊤ := by
      rw [EReal.top_mul_of_pos (by exact_mod_cast (by norm_num : (0 : ℝ) < 1 / 4096)), EReal.top_add_coe]
    rw [this]
    show X d * (0 : EReal) = _
    simp
  | coe s =>
    have hs : 0 ≤ s := by exact_mod_cast hnn
    obtain ⟨x, hx⟩ : ∃ x : ℝ, X d = (x : EReal) := by
      generalize X d = y at hle
      induction y using EReal.rec with
      | bot => simp at hle
      | top => simp at hle
      | coe x => exact ⟨x, rfl⟩
    rw [hx, ← EReal.coe_mul, EReal.coe_le_coe_iff] at hle
    rw [hx, ← EReal.coe_mul, ← EReal.coe_add]
    have hp : 0 < s * (1 / 4096) + e := by positivity
    have hr : Ideal.rsqrt ((s * (1 / 4096) + e : ℝ) : EReal) = (((Real.sqrt (s * (1 / 4096) + e))⁻¹ : ℝ) : EReal) := by
      show (if _ then (⊥ : EReal) else _) = _
      rw [if_neg (by linarith), if_neg (by linarith)]
    refine ⟨x * (Real.sqrt (s * (1 / 4096) + e))⁻¹, ?_, by rw [hr, ← EReal.coe_mul]⟩
    have hq : 0 < Real.sqrt (s * (1 / 4096) + e) := Real.sqrt_pos.2 hp
    rw [abs_mul, abs_of_pos (inv_pos.2 hq), ← div_eq_mul_inv, div_le_iff₀ hq]
    apply abs_le_of_sq_le_sq _ (by positivity)
    rw [mul_pow, Real.sq_sqrt hp.le]
    nlinarith

/-- The magnitude of a normalised value is at most 64 times the bound on the gains. -/
theorem h_bound (X G : Fin 4096 → EReal) (M : ℝ) (hM : ∀ d, max (G d) (-(G d)) ≤ (M : EReal)) (d : Fin 4096) :
    max (h X G d) (-(h X G d)) ≤ ((64 * M : ℝ) : EReal) := by
  obtain ⟨r, hr, e⟩ := normed_bound X d
  unfold h
  rw [e]
  have hg := hM d
  obtain ⟨g, hg'⟩ : ∃ g : ℝ, G d = (g : EReal) := by
    generalize G d = y at hg
    induction y using EReal.rec with
    | bot => simp at hg
    | top => simp at hg
    | coe g => exact ⟨g, rfl⟩
  rw [hg'] at hg ⊢
  rw [← EReal.coe_neg, ← coe_max', EReal.coe_le_coe_iff] at hg
  rw [← EReal.coe_mul, ← EReal.coe_neg, ← coe_max', EReal.coe_le_coe_iff]
  have hg2 : |g| ≤ M := hg
  show |r * g| ≤ _
  rw [abs_mul]
  exact mul_le_mul hr hg2 (abs_nonneg _) (by norm_num)

/-- A magnitude is not negative. -/
theorem abs_nonneg' (x : EReal) : 0 ≤ max x (-x) := by
  induction x using EReal.rec with
  | bot => simp
  | top => simp
  | coe r => rw [← EReal.coe_neg, ← coe_max']; exact_mod_cast abs_nonneg r

/-- The row's largest magnitude is not negative. -/
theorem amax_nonneg (X G : Fin 4096 → EReal) : 0 ≤ amax X G :=
  (Finset.le_fold_max _).2 (.inr ⟨0, Finset.mem_univ _, abs_nonneg' _⟩)

/-- The row's largest magnitude is at most 64 times the bound on the gains. -/
theorem amax_le (X G : Fin 4096 → EReal) (M : ℝ) (hM : ∀ d, max (G d) (-(G d)) ≤ (M : EReal)) :
    amax X G ≤ ((64 * M : ℝ) : EReal) :=
  (Finset.fold_max_le _).2 ⟨by rw [ofBits_neg_inf]; exact bot_le, fun d _ => h_bound X G M hM d⟩

/-- **The row's scale and inverse scale are the reference's** when every gain is at most the largest finite float. -/
theorem scale_eq (X G : Fin 4096 → EReal) (hG : ∀ d, max (G d) (-(G d)) ≤ Ideal.ofBits .f32 0x7F7FFFFF#32) :
    scale X G = Scale.rScale (amax X G) (amaxT X G) ∧ inv X G = Scale.rInv (amax X G) (amaxT X G) := by
  obtain ⟨M, hM0, hM, eM⟩ := ofBits_max
  obtain ⟨c, hc0, hc, ec⟩ := ofBits_c
  rw [eM] at hG
  have h1 := amax_le X G M hG
  have h0 := amax_nonneg X G
  refine Scale.scale_eq _ _ ?_ ?_ ?_
  · unfold amaxT; rw [ec]; exact mul_nonneg h0 (by exact_mod_cast hc0.le)
  · unfold amaxT; rw [ec]
    generalize amax X G = a at h0 h1
    induction a using EReal.rec with
    | bot => simp at h0
    | top => exact absurd h1 (not_le.2 (EReal.coe_lt_top _))
    | coe a =>
      rw [EReal.coe_le_coe_iff] at h1
      have ha : 0 ≤ a := by exact_mod_cast h0
      rw [← EReal.coe_mul, EReal.coe_lt_coe_iff]
      have e1 : a * c ≤ 64 * (2 : ℝ) ^ (128 : ℤ) * (1 / 300) :=
        mul_le_mul (le_trans h1 (by linarith)) hc hc0.le (by positivity)
      refine lt_of_le_of_lt e1 ?_
      norm_num
  · intro e; unfold amaxT; rw [e, zero_mul]

/-! ## The projection and the rotation -/

/-- Entry `n` of the projection of one row: the dot product of the row's codes with column `n` of the weights, times
    the row's scale, times the column's scale. -/
def proj (X G : Fin 4096 → EReal) (w : Fin 4096 → Fin 2304 → EReal) (ws : Fin 2304 → EReal) (n : Fin 2304) : EReal :=
  (∑ d, code X G d * w d n) * scale X G * ws n

/-- The rotation angle of one lane: the row's position times the lane's frequency. -/
def angle (p : BitVec 32) (f : Fin 128 → EReal) (j : Fin 128) : EReal := (FloatOps.sitofp .f32 p : Ideal .f32) * f j

/-- Lane `j` of the rotated head that starts at column `b`, as the kernel computes it: the lane times the cosine, plus
    the lane 64 further round the head times the sine, negated in the first 64 lanes. -/
def rot (y : Fin 2304 → EReal) (a : Fin 128 → EReal) (b : Nat) (hb : b + 128 ≤ 2304) (j : Fin 128) : EReal :=
  y ⟨b + j, by omega⟩ * Ideal.cos (a j) + y ⟨b + (j + 128 - 64) % 128, by omega⟩ *
    Scalar.select (IntOp.cmpi .slt (BitVec.ofNat 32 j) 64#32) (0 - Ideal.sin (a j)) (Ideal.sin (a j))

end Cert.Row
-- ==== Proof.KernelRow.lean ====
/-
  The kernel's body up to its codes and scales, at an index, over the extended reals: the normalised input, a token's
  largest magnitude, the search for its exponent, its scale and its codes, as the functions of `Row` and `Scale`.
-/
module
public import proofs.«01_k».proof.Proof.Row
public import proofs.«01_k».proof.Proof.KernelBlocks
public import Idealize.ShloMosaic.Lib.Pointwise
@[expose] public section
set_option maxRecDepth 16384
noncomputable section
namespace Cert.KernelRow
open Idealize.ShloMosaic Cert.KernelIdeal Cert.KernelIdeal.Gen
open scoped BigOperators

variable (x0 : Vec Ideal S512x4096 .bf16) (x1 : Vec Ideal S512x1 .i32) (x2 : Vec Ideal S1x4096 .f32)
  (x3 : Vec Ideal S4096x2304 .fp8e4m3) (x4 : Vec Ideal S1x2304 .f32) (x5 : Vec Ideal S1x128 .f32)

/-- Row `i` of the block of tokens. -/
abbrev X (i : Fin 512) : Fin 4096 → EReal := fun d => x0 (ix2 i d)
/-- The gains. -/
abbrev G : Fin 4096 → EReal := fun d => x2 (ix2 0 d)

/-- The normalised input at an index. -/
theorem pay1_apply (i : Fin 512) (d : Fin 4096) : k0_pay1 x0 x2 (ix2 i d) = Row.h (X x0 i) (G x2) d := by
  pointwise [k0_pay1]
  rfl

/-- A token's largest magnitude. -/
theorem pay2_apply (i : Fin 512) : k0_pay2 x0 x2 (ix2 i 0) = Row.amax (X x0 i) (G x2) := by
  pointwise [k0_pay2]
  simp only [pay1_apply]
  rfl

/-- A vector times a constant, at an index. -/
theorem mulf_const {S : Shape} (a : FVec Ideal S .f32) (b : BitVec 32) (j : S.Idx) :
    mulf a (broadcast S (Scalar.ofBits .f32 b)) j = a j * Ideal.ofBits .f32 b := rfl

/-- A token's largest magnitude over 448. -/
theorem pay3_apply (i : Fin 512) : k0_pay3 x0 x2 (ix2 i 0) = Row.amaxT (X x0 i) (G x2) := by
  have e : k0_pay3 x0 x2 = mulf (k0_pay2 x0 x2) (broadcast S512x1 (Scalar.ofBits .f32 0x3B124925#32)) := rfl
  rw [e, mulf_const, pay2_apply, Row.amaxT]

/-- The comparison of one step of the search, at an index. -/
theorem cmp_apply {S : Shape} (t : FVec Ideal S .f32) (f : IVec S 32) (b : BitVec 32) (j : S.Idx) :
    cmpf .oge t (bitcastToFloat .f32 (shli (addi f (broadcast S b)) (broadcast S 23#32))) j
      = Ideal.cmp .oge (t j) (Ideal.ofBits .f32 (IntOp.shli .vector (IntOp.addi (f j) b) 23#32)) := rfl

/-- One step of the search, at an index. -/
theorem step_apply {S : Shape} (t : FVec Ideal S .f32) (f : IVec S 32) (b : BitVec 32) (j : S.Idx) :
    addi f (select (cmpf .oge t (bitcastToFloat .f32 (shli (addi f (broadcast S b)) (broadcast S 23#32))))
      (broadcast S b) (broadcast S 0#32)) j = Scale.step (t j) (f j) b := rfl

/-- The first step of the search for the exponent field. -/
theorem pay4_apply (j : S512x1.Idx) : k0_pay4 x0 x2 j = Scale.step (k0_pay3 x0 x2 j) 0#32 128#32 := by
  have e : k0_pay4 x0 x2 = addi (broadcast S512x1 0#32) (select (cmpf .oge (k0_pay3 x0 x2) (bitcastToFloat .f32
      (shli (addi (broadcast S512x1 0#32) (broadcast S512x1 128#32)) (broadcast S512x1 23#32))))
      (broadcast S512x1 128#32) (broadcast S512x1 0#32)) := rfl
  rw [e, step_apply]
  generalize k0_pay3 x0 x2 j = t
  rfl

/-- The comparison of the second step of the search. -/
theorem pay5_apply (j : S512x1.Idx) : k0_pay5 x0 x2 j = Ideal.cmp .oge (k0_pay3 x0 x2 j)
    (Ideal.ofBits .f32 (IntOp.shli .vector (IntOp.addi (k0_pay4 x0 x2 j) 64#32) 23#32)) := by
  have e : k0_pay5 x0 x2 = cmpf .oge (k0_pay3 x0 x2) (bitcastToFloat .f32
      (shli (addi (k0_pay4 x0 x2) (broadcast S512x1 64#32)) (broadcast S512x1 23#32))) := rfl
  rw [e, cmp_apply]

/-- The next steps of the search, from its second to its sixth. -/
theorem pay8_apply (t : FVec Ideal S512x1 .f32) (f : IVec S512x1 32) (b : IVec S512x1 1) (j : S512x1.Idx)
   (hb : b j = Ideal.cmp .oge (t j) (Ideal.ofBits .f32 (IntOp.shli .vector (IntOp.addi (f j) 64#32) 23#32))) :
   k0_pay8 t f b k0_pay6 k0_pay7 j = Scale.step (t j) (Scale.step (t j) (Scale.step (t j) (Scale.step (t j)
      (Scale.step (t j) (f j) 64#32) 32#32) 16#32) 8#32) 4#32 := by
  rw [show Scale.step (t j) (f j) 64#32 = IntOp.addi (f j) (Scalar.select (b j) 64#32 0#32) by rw [hb]; rfl]
  rfl

/-- The exponent field that the search ends with. -/
theorem field_apply (j : S512x1.Idx) :
    k0_pay8 (k0_pay3 x0 x2) (k0_pay4 x0 x2) (k0_pay5 x0 x2) k0_pay6 k0_pay7 j
    = Scale.step (k0_pay3 x0 x2 j) (Scale.step (k0_pay3 x0 x2 j) (Scale.step (k0_pay3 x0 x2 j) (Scale.step (k0_pay3 x0 x2 j)
      (Scale.step (k0_pay3 x0 x2 j) (Scale.step (k0_pay3 x0 x2 j) 0#32 128#32) 64#32) 32#32) 16#32) 8#32) 4#32 := by
  rw [pay8_apply _ _ _ _ (pay5_apply x0 x2 j), pay4_apply]

/-- The search's last two steps, and the exponent from the field that it ends with. -/
theorem pay10_apply (a t : FVec Ideal S512x1 .f32) (f : IVec S512x1 32) (j : S512x1.Idx) :
    k0_pay10 a t f k0_pay9 j =
      (let w := Scale.step (t j) (Scale.step (t j) (f j) 2#32) 1#32
       Scalar.select (IntOp.ori (IntOp.ori (IntOp.cmpi .eq w 0#32) (IntOp.cmpi .eq w 255#32))
         (Ideal.cmp .oeq (a j) (Ideal.ofBits .f32 0x00000000#32))) 0#32 (IntOp.subi w 126#32)) := rfl

/-- The scale of a token from its exponent. -/
theorem pay11_apply (a t : FVec Ideal S512x1 .f32) (f g : IVec S512x1 32) (j : S512x1.Idx) :
    k0_pay11 a t f g j = Ideal.ofBits .f32 (IntOp.shli .vector (IntOp.addi 127#32 (k0_pay10 a t f g j)) 23#32) := by
  unfold k0_pay11
  generalize k0_pay10 a t f g = e
  rfl

/-- The scaled input from the token's exponent. -/
theorem pay12_apply (h : FVec Ideal S512x4096 .f32) (a t : FVec Ideal S512x1 .f32) (f g : IVec S512x1 32) (i : Fin 512)
    (d : Fin 4096) :
    k0_pay12 h a t f g (ix2 i d) = h (ix2 i d) *
      Ideal.ofBits .f32 (IntOp.shli .vector (IntOp.subi 127#32 (k0_pay10 a t f g (ix2 i 0))) 23#32) := by
  unfold k0_pay12
  generalize k0_pay10 a t f g = e
  pointwise []

/-- A token's exponent. -/
theorem exp_apply (i : Fin 512) :
    k0_pay10 (k0_pay2 x0 x2) (k0_pay3 x0 x2) (k0_pay8 (k0_pay3 x0 x2) (k0_pay4 x0 x2) (k0_pay5 x0 x2) k0_pay6 k0_pay7) k0_pay9 (ix2 i 0)
      = Scale.kExp (Row.amax (X x0 i) (G x2)) (Row.amaxT (X x0 i) (G x2)) := by
  rw [pay10_apply, field_apply, pay2_apply, pay3_apply]
  rfl

/-- The codes: the scaled input clipped. -/
theorem pay13_apply (z : FVec Ideal S512x4096 .f32) (j : S512x4096.Idx) :
    k0_pay13 z (Scalar.ofBits .f32 0xC3E00000#32) j
      = min (Ideal.ofBits .f32 0x43E00000#32) (max (Ideal.ofBits .f32 0xC3E00000#32) (z j)) := by
  pointwise [k0_pay13]

end Cert.KernelRow
-- ==== Proof.KernelOut.lean ====
/-
  The kernel's five result blocks at an index, over the extended reals: what one grid point leaves in each result's
  block, as a function of that token's row, its position, the gains, the weights, their scales and the frequencies.
-/
module
public import proofs.«01_k».proof.Proof.KernelRow
@[expose] public section
set_option maxRecDepth 16384
noncomputable section
namespace Cert.KernelRow
open Idealize.ShloMosaic Cert.KernelIdeal Cert.KernelIdeal.Gen
open scoped BigOperators

variable (x0 : Vec Ideal S512x4096 .bf16) (x1 : Vec Ideal S512x1 .i32) (x2 : Vec Ideal S1x4096 .f32)
  (x3 : Vec Ideal S4096x2304 .fp8e4m3) (x4 : Vec Ideal S1x2304 .f32) (x5 : Vec Ideal S1x128 .f32)

/-- The origin, written as a function. -/
theorem hz : (![0, 0] : Fin 2 → Nat) = fun _ => 0 := by funext a; fin_cases a <;> rfl

/-! ## The values the stores share -/

/-- A repeated operation of the body: `k0_pay39` is the earlier one. -/
theorem pay39_eq : k0_pay39 x0 x1 x2 x3 x4 x5 = k0_pay2 x0 x2 := by
  unfold k0_pay39; rw [View.ld_unit_zero hz, View.ld_unit_zero hz]

/-- A repeated operation of the body: `k0_pay40` is the earlier one. -/
theorem pay40_eq : k0_pay40 x0 x1 x2 x3 x4 x5 = k0_pay3 x0 x2 := by
  unfold k0_pay40; rw [View.ld_unit_zero hz, View.ld_unit_zero hz]

/-- A repeated operation of the body: `k0_pay41` is the earlier one. -/
theorem pay41_eq : k0_pay41 x0 x1 x2 x3 x4 x5
    = k0_pay8 (k0_pay3 x0 x2) (k0_pay4 x0 x2) (k0_pay5 x0 x2) k0_pay6 k0_pay7 := by
  unfold k0_pay41; rw [pay40_eq, View.ld_unit_zero hz, View.ld_unit_zero hz]

/-- The scale block: every row's scale. -/
theorem pay43_apply (i : Fin 512) : k0_pay43 x0 x1 x2 x3 x4 x5 (ix2 i 0) = Row.scale (X x0 i) (G x2) := by
  unfold k0_pay43 k0_pay42
  rw [pay11_apply, pay39_eq, pay40_eq, pay41_eq, exp_apply]
  rfl

/-- Every row times its inverse scale. -/
theorem pay44_apply (i : Fin 512) (d : Fin 4096) :
    k0_pay44 x0 x1 x2 x3 x4 x5 (ix2 i d) = Row.h (X x0 i) (G x2) d * Row.inv (X x0 i) (G x2) := by
  unfold k0_pay44 k0_pay42
  rw [pay12_apply, pay39_eq, pay40_eq, pay41_eq, exp_apply, View.ld_unit_zero hz, View.ld_unit_zero hz, pay1_apply]
  rfl

/-- The codes block. -/
theorem codes_apply (i : Fin 512) (d : Fin 4096) :
    k0_pay13 (k0_pay44 x0 x1 x2 x3 x4 x5) (Scalar.ofBits .f32 0xC3E00000#32) (ix2 i d) = Row.code (X x0 i) (G x2) d := by
  rw [pay13_apply, pay44_apply]
  rfl

/-- The scaled projection: the sum of the codes times the weights, times the token's scale and the weights' scale. -/
theorem pay17_apply (s : FVec Ideal S512x1 .f32) (z : FVec Ideal S512x4096 .f32) (c : Ideal .f32)
    (w : Vec Ideal S4096x2304 .fp8e4m3) (ws : Vec Ideal S1x2304 .f32) (i : Fin 512) (n : Fin 2304) :
    k0_pay17 s z c w ws (ix2 i n) = (∑ x, k0_pay13 z c (ix2 i x) * w (ix2 x n)) * s (ix2 i 0) * ws (ix2 0 n) := by
  pointwise [k0_pay17]

/-- The projection of every row. -/
theorem proj_apply (i : Fin 512) (n : Fin 2304) :
    k0_pay17 (k0_pay43 x0 x1 x2 x3 x4 x5) (k0_pay44 x0 x1 x2 x3 x4 x5) (Scalar.ofBits .f32 0xC3E00000#32) x3 x4 (ix2 i n)
      = Row.proj (X x0 i) (G x2) (fun d n => x3 (ix2 d n)) (fun n => x4 (ix2 0 n)) n := by
  rw [pay17_apply, pay43_apply]
  simp only [codes_apply]
  rfl

/-- A repeated operation of the body: `k0_pay47` is the earlier one. -/
theorem pay47_eq : k0_pay47 x0 x1 x2 x3 x4 x5
    = k0_pay17 (k0_pay43 x0 x1 x2 x3 x4 x5) (k0_pay44 x0 x1 x2 x3 x4 x5) (Scalar.ofBits .f32 0xC3E00000#32) x3 x4 := by
  unfold k0_pay47; rw [View.ld_unit_zero hz, View.ld_unit_zero hz]

/-- The angle at an index. -/
theorem pay14_apply (p : Vec Ideal S512x1 .i32) (f : Vec Ideal S1x128 .f32) (i : Fin 512) (j : Fin 128) :
    k0_pay14 p f (ix2 i j) = Row.angle (p (ix2 i 0)) (fun j => f (ix2 0 j)) j := by
  pointwise [k0_pay14]
  rfl

/-- The cosine at an index. -/
theorem pay15_apply (p : Vec Ideal S512x1 .i32) (f : Vec Ideal S1x128 .f32) (i : Fin 512) (j : Fin 128) :
    k0_pay15 p f (ix2 i j) = Ideal.cos (Row.angle (p (ix2 i 0)) (fun j => f (ix2 0 j)) j) := by
  pointwise [k0_pay15]
  rw [pay14_apply]

/-- The signed sine at an index. -/
theorem pay16_apply (p : Vec Ideal S512x1 .i32) (f : Vec Ideal S1x128 .f32) (i : Fin 512) (j : Fin 128) :
    k0_pay16 p f (ix2 i j) = Scalar.select (IntOp.cmpi .slt (BitVec.ofNat 32 j) 64#32)
      (0 - Ideal.sin (Row.angle (p (ix2 i 0)) (fun j => f (ix2 0 j)) j))
      (Ideal.sin (Row.angle (p (ix2 i 0)) (fun j => f (ix2 0 j)) j)) := by
  pointwise [k0_pay16]
  rw [pay14_apply]

/-- A repeated operation of the body: `k0_pay45` is the earlier one. -/
theorem pay45_eq : k0_pay45 x0 x1 x2 x3 x4 x5 = k0_pay15 x1 x5 := by
  unfold k0_pay45; rw [View.ld_unit_zero hz, View.ld_unit_zero hz]

/-- A repeated operation of the body: `k0_pay46` is the earlier one. -/
theorem pay46_eq : k0_pay46 x0 x1 x2 x3 x4 x5 = k0_pay16 x1 x5 := by
  unfold k0_pay46; rw [View.ld_unit_zero hz, View.ld_unit_zero hz]

/-! ## The rotated heads -/

/-- What a head's store holds: from the projection `y`, the cosines `c` and the sines `s`, the head starting at
    column `b`. -/
def head (c s : FVec Ideal S512x128 .f32) (y : FVec Ideal S512x2304 .f32) (b : Nat) (hb : b + 128 ≤ 2304) (i : Fin 512)
    (j : Fin 128) : EReal :=
  y (ix2 i ⟨b + j, by omega⟩) * c (ix2 i j) + y (ix2 i ⟨b + (j + 128 - 64) % 128, by omega⟩) * s (ix2 i j)

section Heads
variable (c s : FVec Ideal S512x128 .f32) (y : FVec Ideal S512x2304 .f32) (i : Fin 512) (j : Fin 128)

/-- A rotated head of the body, at an index. -/
theorem pay19_apply : k0_pay19 c s y (ix2 i j) = head c s y 128 (by omega) i j := by
  pointwise [k0_pay19]
  rfl

/-- A rotated head of the body, at an index. -/
theorem pay20_apply : k0_pay20 c s y (ix2 i j) = head c s y 256 (by omega) i j := by
  pointwise [k0_pay20]
  rfl

/-- A rotated head of the body, at an index. -/
theorem pay21_apply : k0_pay21 c s y (ix2 i j) = head c s y 384 (by omega) i j := by
  pointwise [k0_pay21]
  rfl

/-- A rotated head of the body, at an index. -/
theorem pay22_apply : k0_pay22 c s y (ix2 i j) = head c s y 512 (by omega) i j := by
  pointwise [k0_pay22]
  rfl

/-- A rotated head of the body, at an index. -/
theorem pay23_apply : k0_pay23 c s y (ix2 i j) = head c s y 640 (by omega) i j := by
  pointwise [k0_pay23]
  rfl

/-- A rotated head of the body, at an index. -/
theorem pay28_apply : k0_pay28 c s y (ix2 i j) = head c s y 896 (by omega) i j := by
  pointwise [k0_pay28]
  rfl

/-- A rotated head of the body, at an index. -/
theorem pay29_apply : k0_pay29 c s y (ix2 i j) = head c s y 1024 (by omega) i j := by
  pointwise [k0_pay29]
  rfl

/-- A rotated head of the body, at an index. -/
theorem pay30_apply : k0_pay30 c s y (ix2 i j) = head c s y 1152 (by omega) i j := by
  pointwise [k0_pay30]
  rfl

/-- A rotated head of the body, at an index. -/
theorem pay31_apply : k0_pay31 c s y (ix2 i j) = head c s y 1280 (by omega) i j := by
  pointwise [k0_pay31]
  rfl

/-- A rotated head of the body, at an index. -/
theorem pay32_apply : k0_pay32 c s y (ix2 i j) = head c s y 1408 (by omega) i j := by
  pointwise [k0_pay32]
  rfl

/-- A rotated head of the body, at an index. -/
theorem pay33_apply : k0_pay33 c s y (ix2 i j) = head c s y 1536 (by omega) i j := by
  pointwise [k0_pay33]
  rfl

/-- A rotated head of the body, at an index. -/
theorem pay34_apply : k0_pay34 c s y (ix2 i j) = head c s y 1664 (by omega) i j := by
  pointwise [k0_pay34]
  rfl

/-- A rotated head of the body, at an index. -/
theorem pay35_apply : k0_pay35 c s y (ix2 i j) = head c s y 1792 (by omega) i j := by
  pointwise [k0_pay35]
  rfl

/-- A rotated head of the body, at an index. -/
theorem pay36_apply : k0_pay36 c s y (ix2 i j) = head c s y 1920 (by omega) i j := by
  pointwise [k0_pay36]
  rfl

/-- The rotated key head of the body, at an index. -/
theorem pay37_apply : k0_pay37 c s y (ix2 i j) = head c s y 2048 (by omega) i j := by
  pointwise [k0_pay37]
  rfl

/-- A rotated head of the body, at an index. -/
theorem pay27_apply : k0_pay27 s (k0_pay25 c y) (k0_pay26 y) (ix2 i j) = head c s y 768 (by omega) i j := by
  pointwise [k0_pay27, k0_pay26, k0_pay25, k0_pay24]
  rfl

/-- The values of the body, at an index. -/
theorem pay38_apply : k0_pay38 y (ix2 i j) = y (ix2 i ⟨2176 + j, by omega⟩) := by
  pointwise [k0_pay38]

end Heads

/-- The first head of the body, rotated, at an index. -/
theorem pay18_apply (s : FVec Ideal S512x1 .f32) (z : FVec Ideal S512x4096 .f32) (c : Ideal .f32)
    (p : Vec Ideal S512x1 .i32) (f : Vec Ideal S1x128 .f32)
    (w : Vec Ideal S4096x2304 .fp8e4m3) (ws : Vec Ideal S1x2304 .f32) (i : Fin 512) (j : Fin 128) :
    k0_pay18 s z c p f w ws (ix2 i j) = head (k0_pay15 p f) (k0_pay16 p f) (k0_pay17 s z c w ws) 0 (by omega) i j := by
  pointwise [k0_pay18]
  rw [head]
  simp only [Nat.zero_add]

/-- A head of the block, from the token's row. -/
theorem head_apply (b : Nat) (hb : b + 128 ≤ 2304) (i : Fin 512) (j : Fin 128) :
    head (k0_pay15 x1 x5) (k0_pay16 x1 x5)
      (k0_pay17 (k0_pay43 x0 x1 x2 x3 x4 x5) (k0_pay44 x0 x1 x2 x3 x4 x5) (Scalar.ofBits .f32 0xC3E00000#32) x3 x4) b hb i j
      = Row.rot (Row.proj (X x0 i) (G x2) (fun d n => x3 (ix2 d n)) (fun n => x4 (ix2 0 n)))
          (Row.angle (x1 (ix2 i 0)) (fun j => x5 (ix2 0 j))) b hb j := by
  rw [head, proj_apply, proj_apply, pay15_apply, pay16_apply, Row.rot]

/-! ## The five result blocks -/

/-- The scales. -/
theorem out10_apply (i : Fin 512) : out0_10 x0 x1 x2 x3 x4 x5 (ix2 i 0) = Row.scale (X x0 i) (G x2) := by
  unfold out0_10
  rw [View.canon_unit_zero hz, pay43_apply]

/-- The codes. -/
theorem out9_apply (i : Fin 512) (d : Fin 4096) : out0_9 x0 x1 x2 x3 x4 x5 (ix2 i d) = Row.code (X x0 i) (G x2) d := by
  unfold out0_9
  rw [View.canon_unit_zero hz, codes_apply]

/-- The values. -/
theorem out8_apply (i : Fin 512) (j : Fin 128) : out0_8 x0 x1 x2 x3 x4 x5 (ix2 i j)
    = Row.proj (X x0 i) (G x2) (fun d n => x3 (ix2 d n)) (fun n => x4 (ix2 0 n)) ⟨2176 + j, by omega⟩ := by
  unfold out0_8
  rw [View.canon_unit_zero hz, pay38_apply, pay47_eq, proj_apply]

/-- The keys. -/
theorem out7_apply (i : Fin 512) (j : Fin 128) : out0_7 x0 x1 x2 x3 x4 x5 (ix2 i j)
    = Row.rot (Row.proj (X x0 i) (G x2) (fun d n => x3 (ix2 d n)) (fun n => x4 (ix2 0 n)))
          (Row.angle (x1 (ix2 i 0)) (fun j => x5 (ix2 0 j))) 2048 (by omega) j := by
  unfold out0_7
  rw [View.canon_unit_zero hz, pay37_apply, pay45_eq, pay46_eq, pay47_eq, head_apply]

/-- The sixteen query heads side by side. -/
def heads (c s : FVec Ideal S512x128 .f32) (y : FVec Ideal S512x2304 .f32) (e : S512x2048.Idx) : EReal :=
  head c s y (128 * ((e 1).val / 128)) (by have : (e 1).val < 2048 := (e 1).isLt; omega) (e 0)
    ⟨(e 1).val % 128, by omega⟩

/-- A store of head `k` is the part of `heads` its rectangle names. -/
theorem heads_piece (c s : FVec Ideal S512x128 .f32) (y : FVec Ideal S512x2304 .f32) (k : Nat) (hk : 128 * k + 128 ≤ 2304)
    (p : FVec Ideal S512x128 .bf16) (hp : ∀ i j, p (ix2 i j) = head c s y (128 * k) hk i j)
    (x : S512x128.Idx) (e : S512x2048.Idx) (h0 : (e 0).val = (x 0).val) (h1 : (e 1).val = 128 * k + (x 1).val) :
    p x = heads c s y e := by
  have hxx : x = (ix2 (x 0 : Fin 512) (x 1 : Fin 128) : S512x128.Idx) := by funext a; fin_cases a <;> rfl
  have hx : (x 1).val < 128 := (x 1).isLt
  refine (congrArg p hxx).trans ((hp (x 0) (x 1)).trans ?_)
  unfold heads
  have hd : (e 1).val / 128 = k := by omega
  have hm : (e 1).val % 128 = (x 1).val := by omega
  have e0 : e 0 = x 0 := Fin.ext h0
  simp only [hd, hm, e0]
  rfl

/-- The queries. -/
theorem out6_apply (i : Fin 512) (n : Fin 2048) : out0_6 x0 x1 x2 x3 x4 x5 (ix2 i n)
    = Row.rot (Row.proj (X x0 i) (G x2) (fun d n => x3 (ix2 d n)) (fun n => x4 (ix2 0 n)))
          (Row.angle (x1 (ix2 i 0)) (fun j => x5 (ix2 0 j))) (128 * (n.val / 128)) (by omega) ⟨n.val % 128, by omega⟩ := by
  rw [← head_apply]
  unfold out0_6
  refine (View.canon_apply_of_pieces (heads (k0_pay15 x1 x5) (k0_pay16 x1 x5)
    (k0_pay17 (k0_pay43 x0 x1 x2 x3 x4 x5) (k0_pay44 x0 x1 x2 x3 x4 x5) (Scalar.ofBits .f32 0xC3E00000#32) x3 x4))
    _ ?_ _ (cover0_6 _ _ _ _ _ _ _ _ _ _ _ _ _ _ _ _ _)).trans ?_
  · rw [View.ld_unit_zero hz, View.ld_unit_zero hz, View.ld_unit_zero hz, View.ld_unit_zero hz, pay45_eq, pay46_eq, pay47_eq]
    generalize k0_pay43 x0 x1 x2 x3 x4 x5 = sc
    generalize k0_pay44 x0 x1 x2 x3 x4 x5 = z
    generalize (Scalar.ofBits .f32 0xC3E00000#32 : Ideal .f32) = cst
    simp only [List.forall_mem_cons, List.not_mem_nil, false_imp_iff, implies_true, and_true]
    refine ⟨?_, ?_, ?_, ?_, ?_, ?_, ?_, ?_, ?_, ?_, ?_, ?_, ?_, ?_, ?_, ?_⟩
    · exact fun x => heads_piece _ _ _ 15 (by omega) _ (pay36_apply _ _ _) x _ (by show 0 + 1 * (x 0).val = _; omega)
        (by show 1920 + 1 * (x 1).val = _; omega)
    · exact fun x => heads_piece _ _ _ 14 (by omega) _ (pay35_apply _ _ _) x _ (by show 0 + 1 * (x 0).val = _; omega)
        (by show 1792 + 1 * (x 1).val = _; omega)
    · exact fun x => heads_piece _ _ _ 13 (by omega) _ (pay34_apply _ _ _) x _ (by show 0 + 1 * (x 0).val = _; omega)
        (by show 1664 + 1 * (x 1).val = _; omega)
    · exact fun x => heads_piece _ _ _ 12 (by omega) _ (pay33_apply _ _ _) x _ (by show 0 + 1 * (x 0).val = _; omega)
        (by show 1536 + 1 * (x 1).val = _; omega)
    · exact fun x => heads_piece _ _ _ 11 (by omega) _ (pay32_apply _ _ _) x _ (by show 0 + 1 * (x 0).val = _; omega)
        (by show 1408 + 1 * (x 1).val = _; omega)
    · exact fun x => heads_piece _ _ _ 10 (by omega) _ (pay31_apply _ _ _) x _ (by show 0 + 1 * (x 0).val = _; omega)
        (by show 1280 + 1 * (x 1).val = _; omega)
    · exact fun x => heads_piece _ _ _ 9 (by omega) _ (pay30_apply _ _ _) x _ (by show 0 + 1 * (x 0).val = _; omega)
        (by show 1152 + 1 * (x 1).val = _; omega)
    · exact fun x => heads_piece _ _ _ 8 (by omega) _ (pay29_apply _ _ _) x _ (by show 0 + 1 * (x 0).val = _; omega)
        (by show 1024 + 1 * (x 1).val = _; omega)
    · exact fun x => heads_piece _ _ _ 7 (by omega) _ (pay28_apply _ _ _) x _ (by show 0 + 1 * (x 0).val = _; omega)
        (by show 896 + 1 * (x 1).val = _; omega)
    · exact fun x => heads_piece _ _ _ 6 (by omega) _ (pay27_apply _ _ _) x _ (by show 0 + 1 * (x 0).val = _; omega)
        (by show 768 + 1 * (x 1).val = _; omega)
    · exact fun x => heads_piece _ _ _ 5 (by omega) _ (pay23_apply _ _ _) x _ (by show 0 + 1 * (x 0).val = _; omega)
        (by show 640 + 1 * (x 1).val = _; omega)
    · exact fun x => heads_piece _ _ _ 4 (by omega) _ (pay22_apply _ _ _) x _ (by show 0 + 1 * (x 0).val = _; omega)
        (by show 512 + 1 * (x 1).val = _; omega)
    · exact fun x => heads_piece _ _ _ 3 (by omega) _ (pay21_apply _ _ _) x _ (by show 0 + 1 * (x 0).val = _; omega)
        (by show 384 + 1 * (x 1).val = _; omega)
    · exact fun x => heads_piece _ _ _ 2 (by omega) _ (pay20_apply _ _ _) x _ (by show 0 + 1 * (x 0).val = _; omega)
        (by show 256 + 1 * (x 1).val = _; omega)
    · exact fun x => heads_piece _ _ _ 1 (by omega) _ (pay19_apply _ _ _) x _ (by show 0 + 1 * (x 0).val = _; omega)
        (by show 128 + 1 * (x 1).val = _; omega)
    · exact fun x => heads_piece _ _ _ 0 (by omega) _ (pay18_apply sc z cst x1 x5 x3 x4) x _ (by show 0 + 1 * (x 0).val = _; omega)
        (by show 0 + 1 * (x 1).val = _; omega)
  · rfl

end Cert.KernelRow
-- ==== Proof.KernelArr.lean ====
/-
  The ideal kernel's five result arrays at an index: at row `r`, the functions of `Row` of row `r` of the arrays that
  the kernel call reads.
-/
module
public import proofs.«01_k».proof.Proof.KernelOut
@[expose] public section
set_option maxRecDepth 16384
noncomputable section
namespace Cert.KernelArr
open Idealize.ShloMosaic Idealize.ShloMosaic.TcCoe Idealize.SL.Sem
open Idealize.ShloMosaic.Pipeline (Dat Window)
open Cert.KernelIdeal Cert.KernelIdeal.Gen

variable (m : (ℓ : Loc nD τ sig) → Buf (Elt Ideal) ℓ) (c : Dev nD)

/-! ## The arrays that the kernel call reads -/

/-- The tokens, one a row. -/
abbrev A0 : FVec Ideal S8192x4096 .bf16 := V m c (Pipeline.arrRef spec0 0)
/-- The positions. -/
abbrev A1 : IVec S8192x1 32 := V m c (Pipeline.arrRef spec0 1)
/-- The gains. -/
abbrev A2 : FVec Ideal S1x4096 .f32 := V m c (Pipeline.arrRef spec0 2)
/-- The weights. -/
abbrev A3 : FVec Ideal S4096x2304 .fp8e4m3 := V m c (Pipeline.arrRef spec0 3)
/-- The weights' scales. -/
abbrev A4 : FVec Ideal S1x2304 .f32 := V m c (Pipeline.arrRef spec0 4)
/-- The frequencies. -/
abbrev A5 : FVec Ideal S1x128 .f32 := V m c (Pipeline.arrRef spec0 5)

/-! ## Which block every window reads or writes at a point -/

/-- Where window 0's block starts at a point, in blocks. -/
theorem index0 : ∀ t : Fin grid0.N, win0_0.index t 0 = t.val ∧ win0_0.index t 1 = 0 := by decide +kernel
/-- Where window 1's block starts at a point, in blocks. -/
theorem index1 : ∀ t : Fin grid0.N, win0_1.index t 0 = t.val ∧ win0_1.index t 1 = 0 := by decide +kernel
/-- Where window 2's block starts at a point, in blocks. -/
theorem index2 : ∀ t : Fin grid0.N, win0_2.index t 0 = 0 ∧ win0_2.index t 1 = 0 := by decide +kernel
/-- Where window 3's block starts at a point, in blocks. -/
theorem index3 : ∀ t : Fin grid0.N, win0_3.index t 0 = 0 ∧ win0_3.index t 1 = 0 := by decide +kernel
/-- Where window 4's block starts at a point, in blocks. -/
theorem index4 : ∀ t : Fin grid0.N, win0_4.index t 0 = 0 ∧ win0_4.index t 1 = 0 := by decide +kernel
/-- Where window 5's block starts at a point, in blocks. -/
theorem index5 : ∀ t : Fin grid0.N, win0_5.index t 0 = 0 ∧ win0_5.index t 1 = 0 := by decide +kernel
/-- Where window 6's block starts at a point, in blocks. -/
theorem index6 : ∀ t : Fin grid0.N, win0_6.index t 0 = t.val ∧ win0_6.index t 1 = 0 := by decide +kernel
/-- Where window 7's block starts at a point, in blocks. -/
theorem index7 : ∀ t : Fin grid0.N, win0_7.index t 0 = t.val ∧ win0_7.index t 1 = 0 := by decide +kernel
/-- Where window 8's block starts at a point, in blocks. -/
theorem index8 : ∀ t : Fin grid0.N, win0_8.index t 0 = t.val ∧ win0_8.index t 1 = 0 := by decide +kernel
/-- Where window 9's block starts at a point, in blocks. -/
theorem index9 : ∀ t : Fin grid0.N, win0_9.index t 0 = t.val ∧ win0_9.index t 1 = 0 := by decide +kernel
/-- Where window 10's block starts at a point, in blocks. -/
theorem index10 : ∀ t : Fin grid0.N, win0_10.index t 0 = t.val ∧ win0_10.index t 1 = 0 := by decide +kernel

/-- Row `i` of the block at point `t`, as a row of the whole array. -/
def rowOf (t : Fin cfg0.N) (i : Fin 512) : Fin 8192 :=
  ⟨512 * t.val + i.val, by have h : t.val < 16 := Nat.lt_of_lt_of_eq t.isLt N_0; omega⟩

/-! ## The blocks read at a point -/

/-- The block of input 0 at a point, at an index. -/
theorem blk0_apply (t : Fin cfg0.N) (i : Fin 512) (d : Fin 4096) :
    (iblk m c 0 t : Vec Ideal S512x4096 .bf16) (ix2 i d) = A0 m c (ix2 (rowOf t i) d) := by
  refine congrArg (A0 m c) (funext fun a => Fin.ext ?_)
  refine (Window.rect_emb_val win0_0 t (ix2 i d) a).trans ?_
  fin_cases a
  · show win0_0.index t 0 * 512 + i.val = 512 * t.val + i.val
    rw [(index0 t).1]; omega
  · show win0_0.index t 1 * 4096 + d.val = d.val
    rw [(index0 t).2]; omega

/-- The block of input 1 at a point, at an index. -/
theorem blk1_apply (t : Fin cfg0.N) (i : Fin 512) (d : Fin 1) :
    (iblk m c 1 t : Vec Ideal S512x1 .i32) (ix2 i d) = A1 m c (ix2 (rowOf t i) d) := by
  refine congrArg (A1 m c) (funext fun a => Fin.ext ?_)
  refine (Window.rect_emb_val win0_1 t (ix2 i d) a).trans ?_
  fin_cases a
  · show win0_1.index t 0 * 512 + i.val = 512 * t.val + i.val
    rw [(index1 t).1]; omega
  · show win0_1.index t 1 * 1 + d.val = d.val
    rw [(index1 t).2]; omega

/-- The block of input 2 at a point, at an index. -/
theorem blk2_apply (t : Fin cfg0.N) (i : Fin 1) (d : Fin 4096) :
    (iblk m c 2 t : Vec Ideal S1x4096 .f32) (ix2 i d) = A2 m c (ix2 i d) := by
  refine congrArg (A2 m c) (funext fun a => Fin.ext ?_)
  refine (Window.rect_emb_val win0_2 t (ix2 i d) a).trans ?_
  fin_cases a
  · show win0_2.index t 0 * 1 + i.val = i.val
    rw [(index2 t).1]; omega
  · show win0_2.index t 1 * 4096 + d.val = d.val
    rw [(index2 t).2]; omega

/-- The block of input 3 at a point, at an index. -/
theorem blk3_apply (t : Fin cfg0.N) (i : Fin 4096) (d : Fin 2304) :
    (iblk m c 3 t : Vec Ideal S4096x2304 .fp8e4m3) (ix2 i d) = A3 m c (ix2 i d) := by
  refine congrArg (A3 m c) (funext fun a => Fin.ext ?_)
  refine (Window.rect_emb_val win0_3 t (ix2 i d) a).trans ?_
  fin_cases a
  · show win0_3.index t 0 * 4096 + i.val = i.val
    rw [(index3 t).1]; omega
  · show win0_3.index t 1 * 2304 + d.val = d.val
    rw [(index3 t).2]; omega

/-- The block of input 4 at a point, at an index. -/
theorem blk4_apply (t : Fin cfg0.N) (i : Fin 1) (d : Fin 2304) :
    (iblk m c 4 t : Vec Ideal S1x2304 .f32) (ix2 i d) = A4 m c (ix2 i d) := by
  refine congrArg (A4 m c) (funext fun a => Fin.ext ?_)
  refine (Window.rect_emb_val win0_4 t (ix2 i d) a).trans ?_
  fin_cases a
  · show win0_4.index t 0 * 1 + i.val = i.val
    rw [(index4 t).1]; omega
  · show win0_4.index t 1 * 2304 + d.val = d.val
    rw [(index4 t).2]; omega

/-- The block of input 5 at a point, at an index. -/
theorem blk5_apply (t : Fin cfg0.N) (i : Fin 1) (d : Fin 128) :
    (iblk m c 5 t : Vec Ideal S1x128 .f32) (ix2 i d) = A5 m c (ix2 i d) := by
  refine congrArg (A5 m c) (funext fun a => Fin.ext ?_)
  refine (Window.rect_emb_val win0_5 t (ix2 i d) a).trans ?_
  fin_cases a
  · show win0_5.index t 0 * 1 + i.val = i.val
    rw [(index5 t).1]; omega
  · show win0_5.index t 1 * 128 + d.val = d.val
    rw [(index5 t).2]; omega

/-! ## Row by row -/

/-- Row `r` of the tokens. -/
abbrev tok (r : Fin 8192) : Fin 4096 → EReal := fun d => A0 m c (ix2 r d)
/-- The gains. -/
abbrev gain : Fin 4096 → EReal := fun d => A2 m c (ix2 0 d)
/-- The projection of row `r`. -/
abbrev proj (r : Fin 8192) : Fin 2304 → EReal :=
  Row.proj (tok m c r) (gain m c) (fun d n => A3 m c (ix2 d n)) (fun n => A4 m c (ix2 0 n))
/-- The angles of row `r`. -/
abbrev angle (r : Fin 8192) : Fin 128 → EReal := Row.angle (A1 m c (ix2 r 0)) (fun j => A5 m c (ix2 0 j))

/-- A row's tile and its place in the tile. -/
theorem rowOf_surj (r : Fin 8192) : ∃ (t : Fin cfg0.N) (i : Fin 512), rowOf t i = r :=
  ⟨⟨r.val / 512, Nat.lt_of_lt_of_eq (by omega : r.val / 512 < 16) N_0.symm⟩, ⟨r.val % 512, by omega⟩,
    Fin.ext (by show 512 * (r.val / 512) + r.val % 512 = r.val; omega)⟩

/-- Row `i` of the tokens' block is row `rowOf t i` of the tokens. -/
theorem X_eq (t : Fin cfg0.N) (i : Fin 512) : KernelRow.X (iblk m c 0 t) i = tok m c (rowOf t i) :=
  funext fun d => blk0_apply m c t i d

/-- The gains' block is the gains. -/
theorem G_eq (t : Fin cfg0.N) : KernelRow.G (iblk m c 2 t) = gain m c := funext fun d => blk2_apply m c t 0 d

/-! ## Where a block of a result lies -/

/-- Where window 6's block at a point lies in the result. -/
theorem emb6 (t : Fin cfg0.N) (i : Fin 512) (d : Fin 2048) :
    ((cfg0.win 6).blk t).view.emb (ix2 i d) = (ix2 (rowOf t i) d : (⟨2, ![8192, 2048]⟩ : Shape).Idx) := by
  refine funext fun a => Fin.ext ?_
  refine (Window.rect_emb_val win0_6 t (ix2 i d) a).trans ?_
  fin_cases a
  · show win0_6.index t 0 * 512 + i.val = 512 * t.val + i.val
    rw [(index6 t).1]; omega
  · show win0_6.index t 1 * 2048 + d.val = d.val
    rw [(index6 t).2]; omega

/-- Where window 7's block at a point lies in the result. -/
theorem emb7 (t : Fin cfg0.N) (i : Fin 512) (d : Fin 128) :
    ((cfg0.win 7).blk t).view.emb (ix2 i d) = (ix2 (rowOf t i) d : (⟨2, ![8192, 128]⟩ : Shape).Idx) := by
  refine funext fun a => Fin.ext ?_
  refine (Window.rect_emb_val win0_7 t (ix2 i d) a).trans ?_
  fin_cases a
  · show win0_7.index t 0 * 512 + i.val = 512 * t.val + i.val
    rw [(index7 t).1]; omega
  · show win0_7.index t 1 * 128 + d.val = d.val
    rw [(index7 t).2]; omega

/-- Where window 8's block at a point lies in the result. -/
theorem emb8 (t : Fin cfg0.N) (i : Fin 512) (d : Fin 128) :
    ((cfg0.win 8).blk t).view.emb (ix2 i d) = (ix2 (rowOf t i) d : (⟨2, ![8192, 128]⟩ : Shape).Idx) := by
  refine funext fun a => Fin.ext ?_
  refine (Window.rect_emb_val win0_8 t (ix2 i d) a).trans ?_
  fin_cases a
  · show win0_8.index t 0 * 512 + i.val = 512 * t.val + i.val
    rw [(index8 t).1]; omega
  · show win0_8.index t 1 * 128 + d.val = d.val
    rw [(index8 t).2]; omega

/-- Where window 9's block at a point lies in the result. -/
theorem emb9 (t : Fin cfg0.N) (i : Fin 512) (d : Fin 4096) :
    ((cfg0.win 9).blk t).view.emb (ix2 i d) = (ix2 (rowOf t i) d : (⟨2, ![8192, 4096]⟩ : Shape).Idx) := by
  refine funext fun a => Fin.ext ?_
  refine (Window.rect_emb_val win0_9 t (ix2 i d) a).trans ?_
  fin_cases a
  · show win0_9.index t 0 * 512 + i.val = 512 * t.val + i.val
    rw [(index9 t).1]; omega
  · show win0_9.index t 1 * 4096 + d.val = d.val
    rw [(index9 t).2]; omega

/-- Where window 10's block at a point lies in the result. -/
theorem emb10 (t : Fin cfg0.N) (i : Fin 512) (d : Fin 1) :
    ((cfg0.win 10).blk t).view.emb (ix2 i d) = (ix2 (rowOf t i) d : (⟨2, ![8192, 1]⟩ : Shape).Idx) := by
  refine funext fun a => Fin.ext ?_
  refine (Window.rect_emb_val win0_10 t (ix2 i d) a).trans ?_
  fin_cases a
  · show win0_10.index t 0 * 512 + i.val = 512 * t.val + i.val
    rw [(index10 t).1]; omega
  · show win0_10.index t 1 * 1 + d.val = d.val
    rw [(index10 t).2]; omega

/-! ## The results -/

/-- The scales at an index. -/
theorem final10 (r : Fin 8192) : (dats m 0 c).arrAt 10 cfg0.N (ix2 r 0 : (⟨2, ![8192, 1]⟩ : Shape).Idx)
    = Row.scale (tok m c r) (gain m c) := by
  obtain ⟨t, i, rfl⟩ := rowOf_surj r
  refine (congrArg ((dats m 0 c).arrAt 10 cfg0.N) (emb10 t i 0).symm).trans ?_
  refine ((dats m 0 c).arrAt_emb_eq_flushed 10 Value.disjoint10 t (flush0_10 t) (ix2 i 0)).trans ?_
  refine (cast_eq _ _).trans ((congrFun (Value.flushed10 m c t) (ix2 i 0)).trans ?_)
  refine (KernelRow.out10_apply (iblk m c 0 t) (iblk m c 1 t) (iblk m c 2 t) (iblk m c 3 t) (iblk m c 4 t) (iblk m c 5 t) i).trans ?_
  rw [X_eq, G_eq]

/-- The codes at an index. -/
theorem final9 (r : Fin 8192) (d : Fin 4096) : (dats m 0 c).arrAt 9 cfg0.N (ix2 r d : (⟨2, ![8192, 4096]⟩ : Shape).Idx)
    = Row.code (tok m c r) (gain m c) d := by
  obtain ⟨t, i, rfl⟩ := rowOf_surj r
  refine (congrArg ((dats m 0 c).arrAt 9 cfg0.N) (emb9 t i d).symm).trans ?_
  refine ((dats m 0 c).arrAt_emb_eq_flushed 9 Value.disjoint9 t (flush0_9 t) (ix2 i d)).trans ?_
  refine (cast_eq _ _).trans ((congrFun (Value.flushed9 m c t) (ix2 i d)).trans ?_)
  refine (KernelRow.out9_apply (iblk m c 0 t) (iblk m c 1 t) (iblk m c 2 t) (iblk m c 3 t) (iblk m c 4 t) (iblk m c 5 t) i d).trans ?_
  rw [X_eq, G_eq]

/-- The values at an index. -/
theorem final8 (r : Fin 8192) (d : Fin 128) : (dats m 0 c).arrAt 8 cfg0.N (ix2 r d : (⟨2, ![8192, 128]⟩ : Shape).Idx)
    = proj m c r ⟨2176 + d, by omega⟩ := by
  obtain ⟨t, i, rfl⟩ := rowOf_surj r
  refine (congrArg ((dats m 0 c).arrAt 8 cfg0.N) (emb8 t i d).symm).trans ?_
  refine ((dats m 0 c).arrAt_emb_eq_flushed 8 Value.disjoint8 t (flush0_8 t) (ix2 i d)).trans ?_
  refine (cast_eq _ _).trans ((congrFun (Value.flushed8 m c t) (ix2 i d)).trans ?_)
  refine (KernelRow.out8_apply (iblk m c 0 t) (iblk m c 1 t) (iblk m c 2 t) (iblk m c 3 t) (iblk m c 4 t) (iblk m c 5 t) i d).trans ?_
  rw [X_eq, G_eq]
  simp only [blk3_apply, blk4_apply]

/-- The keys at an index. -/
theorem final7 (r : Fin 8192) (d : Fin 128) : (dats m 0 c).arrAt 7 cfg0.N (ix2 r d : (⟨2, ![8192, 128]⟩ : Shape).Idx)
    = Row.rot (proj m c r) (angle m c r) 2048 (by omega) d := by
  obtain ⟨t, i, rfl⟩ := rowOf_surj r
  refine (congrArg ((dats m 0 c).arrAt 7 cfg0.N) (emb7 t i d).symm).trans ?_
  refine ((dats m 0 c).arrAt_emb_eq_flushed 7 Value.disjoint7 t (flush0_7 t) (ix2 i d)).trans ?_
  refine (cast_eq _ _).trans ((congrFun (Value.flushed7 m c t) (ix2 i d)).trans ?_)
  refine (KernelRow.out7_apply (iblk m c 0 t) (iblk m c 1 t) (iblk m c 2 t) (iblk m c 3 t) (iblk m c 4 t) (iblk m c 5 t) i d).trans ?_
  rw [X_eq, G_eq]
  simp only [blk1_apply, blk3_apply, blk4_apply, blk5_apply]

/-- The queries at an index. -/
theorem final6 (r : Fin 8192) (d : Fin 2048) : (dats m 0 c).arrAt 6 cfg0.N (ix2 r d : (⟨2, ![8192, 2048]⟩ : Shape).Idx)
    = Row.rot (proj m c r) (angle m c r) (128 * (d.val / 128)) (by omega) ⟨d.val % 128, by omega⟩ := by
  obtain ⟨t, i, rfl⟩ := rowOf_surj r
  refine (congrArg ((dats m 0 c).arrAt 6 cfg0.N) (emb6 t i d).symm).trans ?_
  refine ((dats m 0 c).arrAt_emb_eq_flushed 6 Value.disjoint6 t (flush0_6 t) (ix2 i d)).trans ?_
  refine (cast_eq _ _).trans ((congrFun (Value.flushed6 m c t) (ix2 i d)).trans ?_)
  refine (KernelRow.out6_apply (iblk m c 0 t) (iblk m c 1 t) (iblk m c 2 t) (iblk m c 3 t) (iblk m c 4 t) (iblk m c 5 t) i d).trans ?_
  rw [X_eq, G_eq]
  simp only [blk1_apply, blk3_apply, blk4_apply, blk5_apply]

end Cert.KernelArr
end
-- ==== Proof.KernelEntry.lean ====
/-
  The arrays that the ideal kernel's call reads, at an index, from the program's arguments.
-/
module
public import proofs.«01_k».proof.Proof.KernelArr
public import proofs.«01_k».proof.Proof.Gen.ReferenceIdeal.Read
public import Idealize.ShloMosaic.Lib.Pointwise
public import Idealize.ShloMosaic.Lib.StableHlo.Run
public import Idealize.ShloMosaic.Lib.StableHlo.RunClose
@[expose] public section
set_option maxRecDepth 16384
noncomputable section
namespace Cert.KernelArr
open Idealize.ShloMosaic Idealize.ShloMosaic.TcCoe Idealize.ShloMosaic.StableHlo Idealize.SL.Sem
open Cert.KernelIdeal Cert.KernelIdeal.Gen

section Arrays
variable {F : FTy → Type} [FloatOps F] (m : (ℓ : Loc nD τ sig) → Buf (Elt F) ℓ) (c : Dev nD)

/-- The kernel call reads the tokens, one a row. -/
theorem entry0 : V m c (Pipeline.arrRef spec0 0)
    = shapeCast S8192x4096 (m ((c : Thread nD τ).loc main_arg0)) shapeCasts_S4x2048x4096_S8192x4096 := by
  show StableHlo.after hostOps0 (fun b => m (c, b)) (Proc.devRef .tc main_v12) = _
  simp only [hostOps0]
  after_results_simp <;> rfl

/-- It reads the positions as a column. -/
theorem entry1 : V m c (Pipeline.arrRef spec0 1)
    = shapeCast S8192x1 (m ((c : Thread nD τ).loc main_arg1)) shapeCasts_S4x2048_S8192x1 := by
  show StableHlo.after hostOps0 (fun b => m (c, b)) (Proc.devRef .tc main_v13) = _
  simp only [hostOps0]
  after_results_simp <;> rfl

/-- It reads the gains as a row. -/
theorem entry2 : V m c (Pipeline.arrRef spec0 2)
    = shapeCast S1x4096 (m ((c : Thread nD τ).loc main_arg2)) shapeCasts_S4096_S1x4096 := by
  show StableHlo.after hostOps0 (fun b => m (c, b)) (Proc.devRef .tc main_v14) = _
  simp only [hostOps0]
  after_results_simp <;> rfl

/-- It reads the weights' scales as a row. -/
theorem entry4 : V m c (Pipeline.arrRef spec0 4)
    = shapeCast S1x2304 (m ((c : Thread nD τ).loc main_arg4)) shapeCasts_S2304_S1x2304 := by
  show StableHlo.after hostOps0 (fun b => m (c, b)) (Proc.devRef .tc main_v15) = _
  simp only [hostOps0]
  after_results_simp <;> rfl

/-- The frequencies of both halves are the reference's. -/
theorem entry5 : V m c (Pipeline.arrRef spec0 5)
    = shapeCast S1x128 (concatenate S128 0 [⟨S64, Cert.ReferenceIdeal.Read.val_main_v62 (F := F)⟩,
        ⟨S64, Cert.ReferenceIdeal.Read.val_main_v62 (F := F)⟩] concatenates_S64_S64_S128_d0) shapeCasts_S128_S1x128 := by
  show StableHlo.after hostOps0 (fun b => m (c, b)) (Proc.devRef .tc main_v11) = _
  simp only [hostOps0]
  after_results_simp <;> rfl

end Arrays

variable (m : (ℓ : Loc nD τ sig) → Buf (Elt Ideal) ℓ) (c : Dev nD)

/-- The sequence of a row. -/
abbrev seqOf (r : Fin 8192) : Fin 4 := ⟨r.val / 2048, by omega⟩
/-- The place of a row in its sequence. -/
abbrev placeOf (r : Fin 8192) : Fin 2048 := ⟨r.val % 2048, by omega⟩

/-- The tokens of four sequences as rows. -/
theorem merge_tokens (x : FVec Ideal S4x2048x4096 .bf16) (r : Fin 8192) (d : Fin 4096) :
    shapeCast S8192x4096 x shapeCasts_S4x2048x4096_S8192x4096 (ix2 r d) = x (ix3 (seqOf r) (placeOf r) d) := by
  refine shapeCast_apply x shapeCasts_S4x2048x4096_S8192x4096 (ix2 r d) (ix3 (seqOf r) (placeOf r) d) ?_
  rw [Shape.rowMajor_val_two, Shape.rowMajor_val_three]
  show ((r.val / 2048) * 2048 + r.val % 2048) * 4096 + d.val = r.val * 4096 + d.val
  omega

/-- The kernel's tokens. -/
theorem A0_apply (r : Fin 8192) (d : Fin 4096) :
    A0 m c (ix2 r d) = m ((c : Thread nD τ).loc main_arg0) (ix3 (seqOf r) (placeOf r) d : S4x2048x4096.Idx) := by
  refine (congrFun (entry0 m c) _).trans (merge_tokens _ r d)

/-- The positions of four sequences as a column. -/
theorem merge_places (x : IVec S4x2048 32) (r : Fin 8192) :
    shapeCast S8192x1 x shapeCasts_S4x2048_S8192x1 (ix2 r 0) = x (ix2 (seqOf r) (placeOf r)) := by
  refine shapeCast_apply x shapeCasts_S4x2048_S8192x1 (ix2 r 0) (ix2 (seqOf r) (placeOf r)) ?_
  rw [Shape.rowMajor_val_two, Shape.rowMajor_val_two]
  show (r.val / 2048) * 2048 + r.val % 2048 = r.val * 1 + 0
  omega

/-- The kernel's positions. -/
theorem A1_apply (r : Fin 8192) :
    A1 m c (ix2 r 0) = m ((c : Thread nD τ).loc main_arg1) (ix2 (seqOf r) (placeOf r) : S4x2048.Idx) := by
  refine (congrFun (entry1 m c) _).trans (merge_places _ r)

/-- A vector of gains as a row. -/
theorem row_gain (x : FVec Ideal S4096 .f32) (d : Fin 4096) :
    shapeCast S1x4096 x shapeCasts_S4096_S1x4096 (ix2 0 d) = x (ix1 d) := by
  refine shapeCast_apply x shapeCasts_S4096_S1x4096 (ix2 0 d) (ix1 d) ?_
  rw [Shape.rowMajor_val_one, Shape.rowMajor_val_two]
  show d.val = 0 * 4096 + d.val
  omega

/-- The kernel's gains. -/
theorem A2_apply (d : Fin 4096) :
    A2 m c (ix2 0 d) = m ((c : Thread nD τ).loc main_arg2) (ix1 d : S4096.Idx) := by
  refine (congrFun (entry2 m c) _).trans (row_gain _ d)

/-- A vector of weight scales as a row. -/
theorem row_scales (x : FVec Ideal S2304 .f32) (d : Fin 2304) :
    shapeCast S1x2304 x shapeCasts_S2304_S1x2304 (ix2 0 d) = x (ix1 d) := by
  refine shapeCast_apply x shapeCasts_S2304_S1x2304 (ix2 0 d) (ix1 d) ?_
  rw [Shape.rowMajor_val_one, Shape.rowMajor_val_two]
  show d.val = 0 * 2304 + d.val
  omega

/-- The kernel's weight scales. -/
theorem A4_apply (d : Fin 2304) :
    A4 m c (ix2 0 d) = m ((c : Thread nD τ).loc main_arg4) (ix1 d : S2304.Idx) := by
  refine (congrFun (entry4 m c) _).trans (row_scales _ d)

/-- The reference's frequency of lane `j` of either half. -/
def freq (j : Fin 128) : EReal :=
  Cert.ReferenceIdeal.Read.val_main_v62 (F := Ideal) (ix1 ⟨j.val % 64, by omega⟩ : S64.Idx)

/-- The kernel's frequencies. -/
theorem A5_apply (j : Fin 128) : A5 m c (ix2 0 j) = freq j := by
  refine (congrFun (entry5 m c) _).trans ((shapeCast_apply _ _ _ (ix1 j : S128.Idx) ?_).trans ?_)
  · rw [Shape.rowMajor_val_one, Shape.rowMajor_val_two]
    show j.val = 0 * 128 + j.val
    omega
  · unfold freq
    generalize Cert.ReferenceIdeal.Read.val_main_v62 (F := Ideal) = f
    by_cases hj : j.val < 64
    · refine concatenate_pair_apply_left (0 : Fin S128.rank) f f _ _ rfl _ fun b => ?_
      fin_cases b
      show j.val % 64 = j.val
      omega
    · refine concatenate_pair_apply_right (0 : Fin S128.rank) f f _ _ rfl rfl _ (fun b hb => ?_) ?_
      · fin_cases b; exact absurd rfl hb
      · show j.val % 64 + 64 = j.val
        omega

end Cert.KernelArr
end
-- ==== Proof.RefHead.lean ====
/-
  The reference's host operations before its kernel call, over the extended reals: the arrays named one after another,
  and each of them at an index as a function of that token's row of the input and of the gains (`Row`, `Scale`).
-/
module
public import proofs.«01_k».proof.Proof.Row
public import proofs.«01_k».proof.Proof.Gen.ReferenceIdeal.Run
public import Idealize.ShloMosaic.Lib.Pointwise
public import Idealize.ShloMosaic.Lib.StableHlo.Run
public import Idealize.ShloMosaic.Lib.StableHlo.RunClose
@[expose] public section
set_option maxRecDepth 16384
noncomputable section
namespace Cert.RefHead
open Idealize.ShloMosaic Idealize.ShloMosaic.TcCoe Idealize.SL.Sem
open Idealize.ShloMosaic.StableHlo Cert.ReferenceIdeal Cert.ReferenceIdeal.Value
open scoped BigOperators

section Arrays
variable {F : FTy → Type} [FloatOps F]

/-- A constant at every token. -/
def tokenConst (b : BitVec 32) : FVec F S4x2048x1 .f32 :=
  broadcastInDim S4x2048x1 ![] Gen.bcast_S_S4x2048x1 (constant S_ .f32 b)

/-- The normalised input. -/
def hV (x : FVec F S4x2048x4096 .bf16) (g : FVec F S4096 .f32) : FVec F S4x2048x4096 .f32 :=
  mulf (mulf (extf .f32 x Gen.bitsLt_bf16_f32)
    (broadcastInDim S4x2048x4096 ![0, 1, 2] Gen.bcast_S4x2048x1_S4x2048x4096_0_1_2
      (Host.rsqrt (addf (Host.divf (broadcastInDim S4x2048x1 ![0, 1] Gen.bcast_S4x2048_S4x2048x1_0_1
        (Host.reduceAdd (mulf (extf .f32 x Gen.bitsLt_bf16_f32) (extf .f32 x Gen.bitsLt_bf16_f32))
          (constant S_ .f32 0x00000000#32) Gen.reducesTo_S4x2048x4096_S4x2048_d2 Gen.h_S_))
        (tokenConst 0x45800000#32)) (tokenConst 0x358637BD#32)))))
    (broadcastInDim S4x2048x4096 ![0, 1, 2] Gen.bcast_S1x1x4096_S4x2048x4096_0_1_2
      (broadcastInDim S1x1x4096 ![2] Gen.bcast_S4096_S1x1x4096_2 g))

/-- Every token's largest magnitude. -/
def aV (h : FVec F S4x2048x4096 .f32) : FVec F S4x2048x1 .f32 :=
  broadcastInDim S4x2048x1 ![0, 1] Gen.bcast_S4x2048_S4x2048x1_0_1
    (Host.reduce FloatOps.maximumf (Host.absf h) (constant S_ .f32 0xFF800000#32) Gen.reducesTo_S4x2048x4096_S4x2048_d2 Gen.h_S_)

/-- Every token's exponent, from its largest magnitude. -/
def eV (a : FVec F S4x2048x1 .f32) : FVec F S4x2048x1 .f32 :=
  select (cmpf .oeq a (tokenConst 0x00000000#32)) (tokenConst 0x00000000#32)
    (select (cmpf .olt (mulf a (tokenConst 0x3B124925#32)) (tokenConst 0x00800000#32)) (tokenConst 0x00000000#32)
      (addf (Host.floor (Host.divf (Host.log (mulf a (tokenConst 0x3B124925#32))) (Host.log (tokenConst 0x40000000#32))))
        (tokenConst 0x3F800000#32)))

/-- Every token's scale, from its exponent. -/
def sV (e : FVec F S4x2048x1 .f32) : FVec F S4x2048x1 .f32 := Host.powf (tokenConst 0x40000000#32) e

/-- The normalised input times every token's inverse scale, from the token's exponent. -/
def hsV (h : FVec F S4x2048x4096 .f32) (e : FVec F S4x2048x1 .f32) : FVec F S4x2048x4096 .f32 :=
  mulf h (broadcastInDim S4x2048x4096 ![0, 1, 2] Gen.bcast_S4x2048x1_S4x2048x4096_0_1_2
    (Host.powf (tokenConst 0x40000000#32) (Host.negf e)))

variable (m : (ℓ : Loc nD τ sig) → Buf (Elt F) ℓ)

/-- The scale as the kernel call leaves it. -/
theorem exit_scale (c : Dev nD) : exitV m c (Proc.devRef .tc main_v33)
    = sV (eV (aV (hV (m ((c.tc : Thread nD τ).loc main_arg0)) (m ((c.tc : Thread nD τ).loc main_arg2))))) :=
  exit_main_v33 m c

set_option maxHeartbeats 2000000 in
/-- What the kernel call reads through its first window: the scaled input, its tokens in one axis. -/
theorem entry_scaled (c : Dev nD) : Gen.V m c (Pipeline.arrRef spec0 0)
    = shapeCast S8192x4096 (hsV (hV (m ((c.tc : Thread nD τ).loc main_arg0)) (m ((c.tc : Thread nD τ).loc main_arg2)))
        (eV (aV (hV (m ((c.tc : Thread nD τ).loc main_arg0)) (m ((c.tc : Thread nD τ).loc main_arg2))))))
        Gen.shapeCasts_S4x2048x4096_S8192x4096 := by
  show Gen.V0 m c (Proc.devRef .tc main_v39) = _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl

end Arrays

/-! ## At an index -/

variable (x : FVec Ideal S4x2048x4096 .bf16) (g : FVec Ideal S4096 .f32)

/-- The row of token `s` of sequence `b`. -/
def row (b : Fin 4) (s : Fin 2048) : Fin 4096 → EReal := fun d => x (ix3 b s d)

/-- The gains. -/
def gains : Fin 4096 → EReal := fun d => g (ix1 d)

/-- A constant per token at an index. -/
theorem tokenConst_apply (w : BitVec 32) (j : S4x2048x1.Idx) : (tokenConst w : FVec Ideal S4x2048x1 .f32) j = Ideal.ofBits .f32 w := rfl

/-- The normalised input at an index. -/
theorem hV_apply (b : Fin 4) (s : Fin 2048) (d : Fin 4096) :
    hV x g (ix3 b s d) = Row.h (row x b s) (gains g) d := by
  pointwise [hV, tokenConst]
  unfold Row.h
  rw [← Row.div_4096]
  rfl

/-- A token's largest magnitude. -/
theorem aV_apply (b : Fin 4) (s : Fin 2048) : aV (hV x g) (ix3 b s 0) = Row.amax (row x b s) (gains g) := by
  pointwise [aV]
  simp only [hV_apply]
  rfl

/-- The operations of the exponent at an index. -/
theorem exp_apply {S : Shape} (a z c tiny two one : FVec Ideal S .f32) (j : S.Idx) :
    select (cmpf .oeq a z) z (select (cmpf .olt (mulf a c) tiny) z
        (addf (Host.floor (Host.divf (Host.log (mulf a c)) (Host.log two))) one)) j
      = Scalar.select (Ideal.cmp .oeq (a j) (z j)) (z j) (Scalar.select (Ideal.cmp .olt (a j * c j) (tiny j)) (z j)
          (Ideal.liftRound Int.floor (Ideal.div (Ideal.log (a j * c j)) (Ideal.log (two j))) + one j)) := rfl

/-- A power at an index. -/
theorem powf_apply {S : Shape} (a e : FVec Ideal S .f32) (j : S.Idx) : Host.powf a e j = Ideal.pow (a j) (e j) := rfl

/-- A negation at an index. -/
theorem negf_apply {S : Shape} (e : FVec Ideal S .f32) (j : S.Idx) : Host.negf e j = -(e j) := rfl

/-- A product with a value per token, at an index. -/
theorem mulToken_apply (h : FVec Ideal S4x2048x4096 .f32) (y : FVec Ideal S4x2048x1 .f32) (b : Fin 4) (s : Fin 2048) (d : Fin 4096) :
    mulf h (broadcastInDim S4x2048x4096 ![0, 1, 2] Gen.bcast_S4x2048x1_S4x2048x4096_0_1_2 y) (ix3 b s d)
      = h (ix3 b s d) * y (ix3 b s 0) := by
  pointwise

/-- A token's exponent. -/
theorem eV_apply (b : Fin 4) (s : Fin 2048) :
    eV (aV (hV x g)) (ix3 b s 0) = Scale.rExp (Row.amax (row x b s) (gains g)) (Row.amaxT (row x b s) (gains g)) := by
  rw [Row.amaxT, ← aV_apply, eV, exp_apply, Scale.rExp]
  simp only [tokenConst_apply]

/-- A token's scale. -/
theorem sV_apply (b : Fin 4) (s : Fin 2048) :
    sV (eV (aV (hV x g))) (ix3 b s 0)
      = Scale.rScale (Row.amax (row x b s) (gains g)) (Row.amaxT (row x b s) (gains g)) := by
  rw [Scale.rScale, ← eV_apply, sV, powf_apply, tokenConst_apply]

/-- The scaled input at an index. -/
theorem hsV_apply (b : Fin 4) (s : Fin 2048) (d : Fin 4096) :
    hsV (hV x g) (eV (aV (hV x g))) (ix3 b s d)
      = Row.h (row x b s) (gains g) d
        * Scale.rInv (Row.amax (row x b s) (gains g)) (Row.amaxT (row x b s) (gains g)) := by
  rw [Scale.rInv, ← eV_apply, ← hV_apply, hsV, mulToken_apply, powf_apply, negf_apply, tokenConst_apply]

end Cert.RefHead
end
-- ==== Proof.RefTail.lean ====
/-
  The reference's host operations after its kernel call, over the extended reals, at an index: the scaled projection,
  its rotated queries and keys as `Row.rot`, its values and the scales.
-/
module
public import proofs.«01_k».proof.Proof.Row
public import proofs.«01_k».proof.Proof.Gen.ReferenceIdeal.Read
public import Idealize.ShloMosaic.Lib.Pointwise
@[expose] public section
set_option maxRecDepth 16384
noncomputable section
namespace Cert.RefTail
open Idealize.ShloMosaic Cert.ReferenceIdeal Cert.ReferenceIdeal.Read

/-! ## The two halves of a rotation -/

/-- Which lanes are in the first half. -/
theorem lane_lt : ∀ j : Fin 128, IntOp.cmpi .slt (BitVec.ofNat 32 j) 64#32 = if j.val < 64 then 1#1 else 0#1 := by
  decide +kernel

section Rot
variable (y : Fin 2304 → EReal) (a : Fin 128 → EReal) (b : Nat) (hb : b + 128 ≤ 2304) (j : Fin 64)

/-- A rotation's first half. -/
theorem rot_low : Row.rot y a b hb ⟨j, by omega⟩
    = y ⟨b + j, by omega⟩ * Ideal.cos (a ⟨j, by omega⟩) - y ⟨b + (64 + j), by omega⟩ * Ideal.sin (a ⟨j, by omega⟩) := by
  have e : (j.val + 128 - 64) % 128 = 64 + j.val := by omega
  unfold Row.rot
  rw [lane_lt, if_pos j.isLt, Scalar.select, if_pos (by decide : (1#1 : BitVec 1) = 1), zero_sub, mul_neg, sub_eq_add_neg]
  simp only [e]

/-- A rotation's second half. -/
theorem rot_high : Row.rot y a b hb ⟨64 + j, by omega⟩
    = y ⟨b + (64 + j), by omega⟩ * Ideal.cos (a ⟨64 + j, by omega⟩) + y ⟨b + j, by omega⟩ * Ideal.sin (a ⟨64 + j, by omega⟩) := by
  have e : (64 + j.val + 128 - 64) % 128 = j.val := by omega
  have h : ¬ 64 + j.val < 64 := by omega
  unfold Row.rot
  rw [lane_lt, if_neg h, Scalar.select, if_neg (by decide : ¬ (0#1 : BitVec 1) = 1)]
  simp only [e]

end Rot

/-! ## The operations at an index -/

variable (x1 : IVec S4x2048 32) (x4 : FVec Ideal S2304 .f32) (r1 : FVec Ideal S8192x2304 .f32) (e0 : FVec Ideal S4x2048x1 .f32)

/-- The frequency of lane `j` of either half. -/
def freq (j : Fin 128) : EReal := val_main_v62 (F := Ideal) (ix1 ⟨j.val % 64, by omega⟩ : S64.Idx)

/-- The angles of a token. -/
abbrev ang (b : Fin 4) (s : Fin 2048) : Fin 128 → EReal := Row.angle (x1 (ix2 b s)) freq

/-- The scaled projection of a token. -/
abbrev y (b : Fin 4) (s : Fin 2048) : Fin 2304 → EReal := fun n => val_main_v46 (F := Ideal) x4 r1 e0 (ix3 b s n)

/-- The scaled projection, from the product, the token's scale and the weights' scales. -/
theorem y_apply (r : Fin 8192) (n : Fin 2304) : y x4 r1 e0 ⟨r.val / 2048, by omega⟩ ⟨r.val % 2048, by omega⟩ n
    = r1 (ix2 r n) * e0 (ix3 ⟨r.val / 2048, by omega⟩ ⟨r.val % 2048, by omega⟩ 0) * x4 (ix1 n) := by
  show val_main_v46 (F := Ideal) x4 r1 e0 _ = _
  rw [val_main_v46_apply, val_main_v43_apply, val_main_v41_apply, val_main_v42_apply, val_main_v45_apply, val_main_v44_apply]
  refine congrArg₂ (fun p q : EReal => p * q) (congrArg₂ (fun p q : EReal => p * q) (congrArg r1 ?_) (congrArg e0 ?_)) (congrArg x4 ?_)
  · funext a
    refine Fin.ext ?_
    fin_cases a
    · show ((r.val / 2048 * 2048 + r.val % 2048) * 2304 + n.val) / 2304 = r.val
      omega
    · show ((r.val / 2048 * 2048 + r.val % 2048) * 2304 + n.val) % 2304 = n.val
      omega
  · funext a; fin_cases a <;> rfl
  · funext a; fin_cases a; rfl

/-- The angle at a token and a lane of the first half. -/
theorem v68_at (b : Fin 4) (s : Fin 2048) (j : Fin 64) :
    val_main_v68 (F := Ideal) x1 (ix3 b s j) = ang x1 b s ⟨j, by omega⟩ := by
  rw [val_main_v68_apply, val_main_v66_apply, val_main_v64_apply, val_main_v63_apply, val_main_v67_apply, val_main_v65_apply]
  refine congrArg₂ (fun p q : EReal => p * q) (congrArg (fun i => (FloatOps.sitofp .f32 (x1 i) : Ideal .f32)) ?_)
    (congrArg (val_main_v62 (F := Ideal)) ?_)
  · funext a; fin_cases a <;> rfl
  · funext a; refine Fin.ext ?_; fin_cases a
    show j.val = j.val % 64
    omega

/-- The angle of a lane of the second half is that of the first. -/
theorem ang_high (b : Fin 4) (s : Fin 2048) (j : Fin 64) : ang x1 b s ⟨64 + j, by omega⟩ = ang x1 b s ⟨j, by omega⟩ := by
  have e : (64 + j.val) % 64 = j.val % 64 := by omega
  simp only [ang, Row.angle, freq, e]

/-- The cosine at a token and a lane of the first half. -/
theorem cos_at (b : Fin 4) (s : Fin 2048) (k : Fin 1) (j : Fin 64) :
    val_main_v70 (F := Ideal) x1 (ix4 b s k j) = Ideal.cos (ang x1 b s ⟨j, by omega⟩) := by
  have e : idx_main_v70 (ix4 b s k j) = ix3 b s j := by funext a; fin_cases a <;> rfl
  rw [val_main_v70_apply, val_main_v69_apply, e, v68_at]
  rfl

/-- The sine at a token and a lane of the first half. -/
theorem sin_at (b : Fin 4) (s : Fin 2048) (k : Fin 1) (j : Fin 64) :
    val_main_v72 (F := Ideal) x1 (ix4 b s k j) = Ideal.sin (ang x1 b s ⟨j, by omega⟩) := by
  have e : idx_main_v72 (ix4 b s k j) = ix3 b s j := by funext a; fin_cases a <;> rfl
  rw [val_main_v72_apply, val_main_v71_apply, e, v68_at]
  rfl

/-! ## The queries -/

/-- The column of lane `j` of head `k`. -/
theorem v48_at (b : Fin 4) (s : Fin 2048) (k : Fin 16) (j : Fin 128) :
    val_main_v48 (F := Ideal) x4 r1 e0 (ix4 b s k j) = y x4 r1 e0 b s ⟨128 * k + j, by omega⟩ := by
  rw [val_main_v48_apply, val_main_v47_apply]
  refine congrArg (val_main_v46 (F := Ideal) x4 r1 e0) ?_
  funext a
  refine Fin.ext ?_
  fin_cases a
  · show (((b.val * 2048 + s.val) * 16 + k.val) * 128 + j.val) / 4194304 = b.val
    omega
  · show (((b.val * 2048 + s.val) * 16 + k.val) * 128 + j.val) / 2048 % 2048 = s.val
    omega
  · show (((b.val * 2048 + s.val) * 16 + k.val) * 128 + j.val) % 2048 = 128 * k.val + j.val
    omega

section Head
variable (b : Fin 4) (s : Fin 2048) (k : Fin 16) (j : Fin 64)

/-- The first half of a query head. -/
theorem v73_at : val_main_v73 (F := Ideal) x4 r1 e0 (ix4 b s k j) = y x4 r1 e0 b s ⟨128 * k + j, by omega⟩ := by
  have e : idx_main_v73 (ix4 b s k j) = ix4 b s k ⟨j, by omega⟩ := by funext a; fin_cases a <;> rfl
  rw [val_main_v73_apply, e, v48_at]

/-- The second half of a query head. -/
theorem v74_at : val_main_v74 (F := Ideal) x4 r1 e0 (ix4 b s k j) = y x4 r1 e0 b s ⟨128 * k + (64 + j), by omega⟩ := by
  have e : idx_main_v74 (ix4 b s k j) = ix4 b s k ⟨64 + j, by omega⟩ := by funext a; fin_cases a <;> rfl
  rw [val_main_v74_apply, e, v48_at]

/-- The first half of a rotated query head. -/
theorem v79_at : val_main_v79 (F := Ideal) x1 x4 r1 e0 (ix4 b s k j)
    = y x4 r1 e0 b s ⟨128 * k + j, by omega⟩ * Ideal.cos (ang x1 b s ⟨j, by omega⟩)
      - y x4 r1 e0 b s ⟨128 * k + (64 + j), by omega⟩ * Ideal.sin (ang x1 b s ⟨j, by omega⟩) := by
  have e5 : idx_main_v75 (ix4 b s k j) = ix4 b s 0 j := by funext a; fin_cases a <;> rfl
  have e7 : idx_main_v77 (ix4 b s k j) = ix4 b s 0 j := by funext a; fin_cases a <;> rfl
  rw [val_main_v79_apply, val_main_v76_apply, val_main_v78_apply, val_main_v75_apply, val_main_v77_apply, e5, e7, cos_at, sin_at,
    v73_at, v74_at]
  rfl

/-- The second half of a rotated query head. -/
theorem v84_at : val_main_v84 (F := Ideal) x1 x4 r1 e0 (ix4 b s k j)
    = y x4 r1 e0 b s ⟨128 * k + (64 + j), by omega⟩ * Ideal.cos (ang x1 b s ⟨j, by omega⟩)
      + y x4 r1 e0 b s ⟨128 * k + j, by omega⟩ * Ideal.sin (ang x1 b s ⟨j, by omega⟩) := by
  have e0' : idx_main_v80 (ix4 b s k j) = ix4 b s 0 j := by funext a; fin_cases a <;> rfl
  have e2 : idx_main_v82 (ix4 b s k j) = ix4 b s 0 j := by funext a; fin_cases a <;> rfl
  rw [val_main_v84_apply, val_main_v81_apply, val_main_v83_apply, val_main_v80_apply, val_main_v82_apply, e0', e2, cos_at, sin_at,
    v73_at, v74_at]
  rfl

end Head

/-- A lane is in the first half or in the second. -/
theorem lane_cases (j : Fin 128) : (∃ i : Fin 64, j = ⟨i, by omega⟩) ∨ ∃ i : Fin 64, j = ⟨64 + i, by omega⟩ := by
  by_cases h : j.val < 64
  · exact .inl ⟨⟨j, h⟩, rfl⟩
  · exact .inr ⟨⟨j - 64, by omega⟩, Fin.ext (by show j.val = 64 + (j.val - 64); omega)⟩

/-- A rotated query head. -/
theorem v85_at (b : Fin 4) (s : Fin 2048) (k : Fin 16) (j : Fin 128) :
    val_main_v85 (F := Ideal) x1 x4 r1 e0 (ix4 b s k j)
      = Row.rot (y x4 r1 e0 b s) (ang x1 b s) (128 * k) (by omega) j := by
  obtain ⟨i, rfl⟩ | ⟨i, rfl⟩ := lane_cases j
  · rw [rot_low, ← v79_at]
    unfold val_main_v85
    refine concatenate_pair_apply_left (3 : Fin S4x2048x16x128.rank) (val_main_v79 (F := Ideal) x1 x4 r1 e0) (val_main_v84 (F := Ideal) x1 x4 r1 e0)
      Gen.concatenates_S4x2048x16x64_S4x2048x16x64_S4x2048x16x128_d3 _ rfl _ fun a => ?_
    fin_cases a <;> rfl
  · rw [rot_high, ang_high, ← v84_at]
    unfold val_main_v85
    refine concatenate_pair_apply_right (3 : Fin S4x2048x16x128.rank) (val_main_v79 (F := Ideal) x1 x4 r1 e0) (val_main_v84 (F := Ideal) x1 x4 r1 e0)
      Gen.concatenates_S4x2048x16x64_S4x2048x16x64_S4x2048x16x128_d3 _ rfl rfl _ (fun a ha => ?_) ?_
    · fin_cases a
      · rfl
      · rfl
      · rfl
      · exact absurd rfl ha
    · show i.val + 64 = 64 + i.val
      omega

/-- The queries at an index. -/
theorem q_apply (r : Fin 8192) (n : Fin 2048) : val_main_v98 (F := Ideal) x1 x4 r1 e0 (ix2 r n)
    = Row.rot (y x4 r1 e0 ⟨r.val / 2048, by omega⟩ ⟨r.val % 2048, by omega⟩) (ang x1 ⟨r.val / 2048, by omega⟩ ⟨r.val % 2048, by omega⟩)
        (128 * (n.val / 128)) (by omega) ⟨n.val % 128, by omega⟩ := by
  have e : idx_main_v98 (ix2 r n) = ix4 ⟨r.val / 2048, by omega⟩ ⟨r.val % 2048, by omega⟩ ⟨n.val / 128, by omega⟩ ⟨n.val % 128, by omega⟩ := by
    funext a
    refine Fin.ext ?_
    fin_cases a
    · show (r.val * 2048 + n.val) / 4194304 = r.val / 2048
      omega
    · show (r.val * 2048 + n.val) / 2048 % 2048 = r.val % 2048
      omega
    · show (r.val * 2048 + n.val) / 128 % 16 = n.val / 128
      omega
    · show (r.val * 2048 + n.val) % 128 = n.val % 128
      omega
  rw [val_main_v98_apply, val_main_v86_apply, e, v85_at]
  rfl

/-! ## The keys and the values -/

/-- A key's column. -/
theorem v50_at (b : Fin 4) (s : Fin 2048) (k : Fin 1) (j : Fin 128) :
    val_main_v50 (F := Ideal) x4 r1 e0 (ix4 b s k j) = y x4 r1 e0 b s ⟨2048 + j, by omega⟩ := by
  rw [val_main_v50_apply, val_main_v49_apply]
  refine congrArg (val_main_v46 (F := Ideal) x4 r1 e0) ?_
  funext a
  refine Fin.ext ?_
  fin_cases a
  · show (((b.val * 2048 + s.val) * 1 + k.val) * 128 + j.val) / 262144 = b.val
    omega
  · show (((b.val * 2048 + s.val) * 1 + k.val) * 128 + j.val) / 128 % 2048 = s.val
    omega
  · show 2048 + (((b.val * 2048 + s.val) * 1 + k.val) * 128 + j.val) % 128 = 2048 + j.val
    omega

section Head
variable (b : Fin 4) (s : Fin 2048) (k : Fin 1) (j : Fin 64)

/-- The first half of a key head. -/
theorem v87_at : val_main_v87 (F := Ideal) x4 r1 e0 (ix4 b s k j) = y x4 r1 e0 b s ⟨2048 + j, by omega⟩ := by
  have e : idx_main_v87 (ix4 b s k j) = ix4 b s k ⟨j, by omega⟩ := by funext a; fin_cases a <;> rfl
  rw [val_main_v87_apply, e, v50_at]

/-- The second half of a key head. -/
theorem v88_at : val_main_v88 (F := Ideal) x4 r1 e0 (ix4 b s k j) = y x4 r1 e0 b s ⟨2048 + (64 + j), by omega⟩ := by
  have e : idx_main_v88 (ix4 b s k j) = ix4 b s k ⟨64 + j, by omega⟩ := by funext a; fin_cases a <;> rfl
  rw [val_main_v88_apply, e, v50_at]

/-- The first half of a rotated key head. -/
theorem v91_at : val_main_v91 (F := Ideal) x1 x4 r1 e0 (ix4 b s k j)
    = y x4 r1 e0 b s ⟨2048 + j, by omega⟩ * Ideal.cos (ang x1 b s ⟨j, by omega⟩)
      - y x4 r1 e0 b s ⟨2048 + (64 + j), by omega⟩ * Ideal.sin (ang x1 b s ⟨j, by omega⟩) := by
  rw [val_main_v91_apply, val_main_v89_apply, val_main_v90_apply, cos_at, sin_at, v87_at, v88_at]
  rfl

/-- The second half of a rotated key head. -/
theorem v94_at : val_main_v94 (F := Ideal) x1 x4 r1 e0 (ix4 b s k j)
    = y x4 r1 e0 b s ⟨2048 + (64 + j), by omega⟩ * Ideal.cos (ang x1 b s ⟨j, by omega⟩)
      + y x4 r1 e0 b s ⟨2048 + j, by omega⟩ * Ideal.sin (ang x1 b s ⟨j, by omega⟩) := by
  rw [val_main_v94_apply, val_main_v92_apply, val_main_v93_apply, cos_at, sin_at, v87_at, v88_at]
  rfl

end Head

/-- The rotated key head. -/
theorem v95_at (b : Fin 4) (s : Fin 2048) (k : Fin 1) (j : Fin 128) :
    val_main_v95 (F := Ideal) x1 x4 r1 e0 (ix4 b s k j) = Row.rot (y x4 r1 e0 b s) (ang x1 b s) 2048 (by omega) j := by
  obtain ⟨i, rfl⟩ | ⟨i, rfl⟩ := lane_cases j
  · rw [rot_low, ← v91_at x1 x4 r1 e0 b s k]
    unfold val_main_v95
    refine concatenate_pair_apply_left (3 : Fin S4x2048x1x128.rank) (val_main_v91 (F := Ideal) x1 x4 r1 e0) (val_main_v94 (F := Ideal) x1 x4 r1 e0)
      Gen.concatenates_S4x2048x1x64_S4x2048x1x64_S4x2048x1x128_d3 _ rfl _ fun a => ?_
    fin_cases a <;> rfl
  · rw [rot_high, ang_high, ← v94_at x1 x4 r1 e0 b s k]
    unfold val_main_v95
    refine concatenate_pair_apply_right (3 : Fin S4x2048x1x128.rank) (val_main_v91 (F := Ideal) x1 x4 r1 e0) (val_main_v94 (F := Ideal) x1 x4 r1 e0)
      Gen.concatenates_S4x2048x1x64_S4x2048x1x64_S4x2048x1x128_d3 _ rfl rfl _ (fun a ha => ?_) ?_
    · fin_cases a
      · rfl
      · rfl
      · rfl
      · exact absurd rfl ha
    · show i.val + 64 = 64 + i.val
      omega

/-- The keys at an index. -/
theorem k_apply (r : Fin 8192) (j : Fin 128) : val_main_v99 (F := Ideal) x1 x4 r1 e0 (ix2 r j)
    = Row.rot (y x4 r1 e0 ⟨r.val / 2048, by omega⟩ ⟨r.val % 2048, by omega⟩) (ang x1 ⟨r.val / 2048, by omega⟩ ⟨r.val % 2048, by omega⟩)
        2048 (by omega) j := by
  have e : idx_main_v99 (ix2 r j) = ix4 ⟨r.val / 2048, by omega⟩ ⟨r.val % 2048, by omega⟩ 0 j := by
    funext a
    refine Fin.ext ?_
    fin_cases a
    · show (r.val * 128 + j.val) / 262144 = r.val / 2048
      omega
    · show (r.val * 128 + j.val) / 128 % 2048 = r.val % 2048
      omega
    · rfl
    · show (r.val * 128 + j.val) % 128 = j.val
      omega
  rw [val_main_v99_apply, val_main_v96_apply, e, v95_at]
  rfl

/-- The values at an index. -/
theorem v_apply (r : Fin 8192) (j : Fin 128) : val_main_v100 (F := Ideal) x4 r1 e0 (ix2 r j)
    = y x4 r1 e0 ⟨r.val / 2048, by omega⟩ ⟨r.val % 2048, by omega⟩ ⟨2176 + j, by omega⟩ := by
  rw [val_main_v100_apply, val_main_v97_apply, val_main_v52_apply, val_main_v51_apply]
  refine congrArg (val_main_v46 (F := Ideal) x4 r1 e0) ?_
  funext a
  refine Fin.ext ?_
  fin_cases a
  · show ((((r.val * 128 + j.val) / 262144 * 2048 + (r.val * 128 + j.val) / 128 % 2048) * 1 + 0) * 128 + (r.val * 128 + j.val) % 128) / 262144 = r.val / 2048
    omega
  · show ((((r.val * 128 + j.val) / 262144 * 2048 + (r.val * 128 + j.val) / 128 % 2048) * 1 + 0) * 128 + (r.val * 128 + j.val) % 128) / 128 % 2048 = r.val % 2048
    omega
  · show 2176 + ((((r.val * 128 + j.val) / 262144 * 2048 + (r.val * 128 + j.val) / 128 % 2048) * 1 + 0) * 128 + (r.val * 128 + j.val) % 128) % 128 = 2176 + j.val
    omega

/-- The scales at an index. -/
theorem s_apply (r : Fin 8192) : val_main_v101 (F := Ideal) e0 (ix2 r 0)
    = e0 (ix3 ⟨r.val / 2048, by omega⟩ ⟨r.val % 2048, by omega⟩ 0) := by
  rw [val_main_v101_apply]
  refine congrArg e0 ?_
  funext a
  refine Fin.ext ?_
  fin_cases a
  · show (r.val * 1 + 0) / 2048 = r.val / 2048
    omega
  · show (r.val * 1 + 0) / 1 % 2048 = r.val % 2048
    omega
  · rfl

end Cert.RefTail
end
-- ==== Proof.Result.lean ====
/-
  The five results as functions of the arguments, over the extended reals; both programs are shown to compute them.
-/
module
public import proofs.«01_k».proof.Proof.RefHead
public import proofs.«01_k».proof.Proof.RefTail
@[expose] public section
noncomputable section
namespace Cert.Result
open Idealize.ShloMosaic Cert.ReferenceIdeal

/-- Two matrices are equal when they agree at every row and column. -/
theorem ext2 {a b : Nat} {α : Type} (f g : (⟨2, ![a, b]⟩ : Shape).Idx → α)
    (h : ∀ (i : Fin a) (j : Fin b), f (ix2 i j) = g (ix2 i j)) : f = g := by
  funext i
  have e : i = (ix2 (i 0 : Fin a) (i 1 : Fin b) : (⟨2, ![a, b]⟩ : Shape).Idx) := by
    funext k; fin_cases k <;> rfl
  exact (congrArg f e).trans ((h (i 0) (i 1)).trans (congrArg g e).symm)

variable (x : FVec Ideal S4x2048x4096 .bf16) (p : IVec S4x2048 32) (g : FVec Ideal S4096 .f32)
  (w : FVec Ideal S4096x2304 .fp8e4m3) (ws : FVec Ideal S2304 .f32)

/-- Token `r`, counting through the four sequences. -/
def tok (r : Fin 8192) : Fin 4096 → EReal := RefHead.row x ⟨r.val / 2048, by omega⟩ ⟨r.val % 2048, by omega⟩

/-- Its scaled projection. -/
def proj (r : Fin 8192) : Fin 2304 → EReal :=
  Row.proj (tok x r) (RefHead.gains g) (fun d n => w (ix2 d n)) (fun n => ws (ix1 n))

/-- Its rotation angles. -/
def angle (r : Fin 8192) : Fin 128 → EReal := RefTail.ang p ⟨r.val / 2048, by omega⟩ ⟨r.val % 2048, by omega⟩

/-- A token's query at a column. -/
def query (r : Fin 8192) (n : Fin 2048) : EReal :=
  Row.rot (proj x g w ws r) (angle p r) (128 * (n.val / 128)) (by omega) ⟨n.val % 128, by omega⟩

/-- A token's key at a column. -/
def key (r : Fin 8192) (j : Fin 128) : EReal := Row.rot (proj x g w ws r) (angle p r) 2048 (by omega) j

/-- A token's value at a column. -/
def value (r : Fin 8192) (j : Fin 128) : EReal := proj x g w ws r ⟨2176 + j, by omega⟩

/-- The queries. -/
def queries : FVec Ideal S8192x2048 .bf16 := fun i => query x p g w ws (i 0) (i 1)
/-- The keys. -/
def keys : FVec Ideal S8192x128 .bf16 := fun i => key x p g w ws (i 0) (i 1)
/-- The values. -/
def values : FVec Ideal S8192x128 .bf16 := fun i => value x g w ws (i 0) (i 1)
/-- The codes. -/
def codes : FVec Ideal S8192x4096 .fp8e4m3 := fun i => Row.code (tok x (i 0)) (RefHead.gains g) (i 1)
/-- The scales. -/
def scales : FVec Ideal S8192x1 .f32 := fun i => Row.scale (tok x (i 0)) (RefHead.gains g)

end Cert.Result
end
-- ==== Proof.KernelSide.lean ====
/-
  The ideal kernel's five result arrays are those of `Result`.
-/
module
public import proofs.«01_k».proof.Proof.KernelEntry
public import proofs.«01_k».proof.Proof.Result
@[expose] public section
noncomputable section
namespace Cert.KernelSide
open Idealize.ShloMosaic Idealize.ShloMosaic.TcCoe
open Cert.KernelIdeal Cert.KernelIdeal.Gen

variable (m : (ℓ : Loc nD τ sig) → Buf (Elt Ideal) ℓ) (c : Dev nD)

/-- The tokens argument. -/
abbrev x : FVec Ideal S4x2048x4096 .bf16 := m ((c.tc : Thread nD τ).loc main_arg0)
/-- The positions argument. -/
abbrev p : IVec S4x2048 32 := m ((c.tc : Thread nD τ).loc main_arg1)
/-- The gains argument. -/
abbrev g : FVec Ideal S4096 .f32 := m ((c.tc : Thread nD τ).loc main_arg2)
/-- The weights argument. -/
abbrev w : FVec Ideal S4096x2304 .fp8e4m3 := m ((c.tc : Thread nD τ).loc main_arg3)
/-- The weights' scales argument. -/
abbrev ws : FVec Ideal S2304 .f32 := m ((c.tc : Thread nD τ).loc main_arg4)

/-- The kernel's row `r` is token `r`. -/
theorem tok_eq (r : Fin 8192) : KernelArr.tok m c r = Result.tok (x m c) r := funext fun d => KernelArr.A0_apply m c r d

/-- Its gains are the argument's. -/
theorem gain_eq : KernelArr.gain m c = RefHead.gains (g m c) := funext fun d => KernelArr.A2_apply m c d

/-- A projection of equal things. -/
theorem proj_congr {X X' G G' : Fin 4096 → EReal} {u u' : Fin 4096 → Fin 2304 → EReal} {s s' : Fin 2304 → EReal}
    (hX : X = X') (hG : G = G') (hu : u = u') (hs : s = s') : Row.proj X G u s = Row.proj X' G' u' s' := by
  subst hX hG hu hs; rfl

/-- Its projection of row `r` is the token's. -/
theorem proj_eq (r : Fin 8192) : KernelArr.proj m c r = Result.proj (x m c) (g m c) (w m c) (ws m c) r :=
  proj_congr (tok_eq m c r) (gain_eq m c)
    (funext fun d => funext fun n => congrFun (V_main_arg3 m c) (ix2 d n : S4096x2304.Idx))
    (funext fun n => KernelArr.A4_apply m c n)

/-- Its angles of row `r` are the token's. -/
theorem angle_eq (r : Fin 8192) : KernelArr.angle m c r = Result.angle (p m c) r :=
  congrArg₂ Row.angle (KernelArr.A1_apply m c r) (funext fun j => KernelArr.A5_apply m c j)

/-- The queries. -/
theorem queries : (dats m 0 c).arrAt 6 cfg0.N = Result.queries (x m c) (p m c) (g m c) (w m c) (ws m c) :=
  Result.ext2 (a := 8192) (b := 2048) _ _ fun r n => by
    refine (KernelArr.final6 m c r n).trans ?_
    rw [proj_eq, angle_eq]
    rfl

/-- The keys. -/
theorem keys : (dats m 0 c).arrAt 7 cfg0.N = Result.keys (x m c) (p m c) (g m c) (w m c) (ws m c) :=
  Result.ext2 (a := 8192) (b := 128) _ _ fun r j => by
    refine (KernelArr.final7 m c r j).trans ?_
    rw [proj_eq, angle_eq]
    rfl

/-- The values. -/
theorem values : (dats m 0 c).arrAt 8 cfg0.N = Result.values (x m c) (g m c) (w m c) (ws m c) :=
  Result.ext2 (a := 8192) (b := 128) _ _ fun r j => by
    refine (KernelArr.final8 m c r j).trans ?_
    rw [proj_eq]
    rfl

/-- The codes. -/
theorem codes : (dats m 0 c).arrAt 9 cfg0.N = Result.codes (x m c) (g m c) :=
  Result.ext2 (a := 8192) (b := 4096) _ _ fun r d => by
    refine (KernelArr.final9 m c r d).trans ?_
    rw [tok_eq, gain_eq]
    rfl

/-- The scales. -/
theorem scales : (dats m 0 c).arrAt 10 cfg0.N = Result.scales (x m c) (g m c) :=
  Result.ext2 (a := 8192) (b := 1) _ _ fun r j => by
    obtain rfl : j = 0 := Subsingleton.elim _ _
    refine (KernelArr.final10 m c r).trans ?_
    rw [tok_eq, gain_eq]
    rfl

end Cert.KernelSide
end
-- ==== Proof.RefRegion.lean ====
/-
  The reference's kernel call over the extended reals, at an index: its codes are the scaled input clipped, its product
  is the sum of the codes times the weights.
-/
module
public import proofs.«01_k».proof.Proof.Gen.ReferenceIdeal.Run
public import Idealize.ShloMosaic.Lib.Pointwise
@[expose] public section
set_option maxRecDepth 16384
noncomputable section
namespace Cert.RefRegion
open Idealize.ShloMosaic Idealize.ShloMosaic.TcCoe Idealize.SL.Sem
open Idealize.ShloMosaic.Pipeline (Dat Window)
open Cert.ReferenceIdeal Cert.ReferenceIdeal.Gen Cert.ReferenceIdeal.Value
open scoped BigOperators

/-! ## The body -/

/-- A clipped value. -/
def clip (x : EReal) : EReal := min (Ideal.ofBits .f32 0x43E00000#32) (max (Ideal.ofBits .f32 0xC3E00000#32) x)

/-- The body's codes at an index. -/
theorem pay1_apply (x : FVec Ideal S8192x4096 .f32) (r : Fin 8192) (d : Fin 4096) :
    k0_pay1 (F := Ideal) x (ix2 r d) = clip (x (ix2 r d)) := by
  unfold clip
  pointwise [k0_pay1]

/-- The body's product at an index. -/
theorem pay2_apply (x : FVec Ideal S8192x4096 .f32) (w : FVec Ideal S4096x2304 .fp8e4m3) (r : Fin 8192) (n : Fin 2304) :
    k0_pay2 (F := Ideal) x w (ix2 r n) = ∑ d : Fin 4096, clip (x (ix2 r d)) * w (ix2 d n) := by
  simp only [← pay1_apply]
  unfold k0_pay2
  generalize k0_pay1 (F := Ideal) x = y
  pointwise

/-- The origin, written as a function. -/
theorem hz : (![0, 0] : Fin 2 → Nat) = fun _ => 0 := funext fun a => by fin_cases a <;> rfl

/-! ## The arrays -/

variable (m : (ℓ : Loc nD τ sig) → Buf (Elt Ideal) ℓ) (c : Dev nD)

/-- The scaled input that the call reads. -/
abbrev A0 : FVec Ideal S8192x4096 .f32 := V m c (Pipeline.arrRef spec0 0)
/-- The weights that the call reads. -/
abbrev A1 : FVec Ideal S4096x2304 .fp8e4m3 := V m c (Pipeline.arrRef spec0 1)

/-- Window 0's one block starts at the origin. -/
theorem index0 : ∀ t : Fin grid0.N, win0_0.index t 0 = 0 ∧ win0_0.index t 1 = 0 := by decide +kernel
/-- Window 1's one block starts at the origin. -/
theorem index1 : ∀ t : Fin grid0.N, win0_1.index t 0 = 0 ∧ win0_1.index t 1 = 0 := by decide +kernel
/-- Window 2's one block starts at the origin. -/
theorem index2 : ∀ t : Fin grid0.N, win0_2.index t 0 = 0 ∧ win0_2.index t 1 = 0 := by decide +kernel
/-- Window 3's one block starts at the origin. -/
theorem index3 : ∀ t : Fin grid0.N, win0_3.index t 0 = 0 ∧ win0_3.index t 1 = 0 := by decide +kernel

/-- The one block of input 0 is the whole array. -/
theorem blk0_apply (t : Fin cfg0.N) (i : Fin 8192) (d : Fin 4096) :
    (iblk m c 0 t : Vec Ideal S8192x4096 .f32) (ix2 i d) = A0 m c (ix2 i d) := by
  refine congrArg (A0 m c) (funext fun a => Fin.ext ?_)
  refine (Window.rect_emb_val win0_0 t (ix2 i d) a).trans ?_
  fin_cases a
  · show win0_0.index t 0 * 8192 + i.val = i.val
    rw [(index0 t).1]; omega
  · show win0_0.index t 1 * 4096 + d.val = d.val
    rw [(index0 t).2]; omega

/-- The one block of input 1 is the whole array. -/
theorem blk1_apply (t : Fin cfg0.N) (i : Fin 4096) (d : Fin 2304) :
    (iblk m c 1 t : Vec Ideal S4096x2304 .fp8e4m3) (ix2 i d) = A1 m c (ix2 i d) := by
  refine congrArg (A1 m c) (funext fun a => Fin.ext ?_)
  refine (Window.rect_emb_val win0_1 t (ix2 i d) a).trans ?_
  fin_cases a
  · show win0_1.index t 0 * 4096 + i.val = i.val
    rw [(index1 t).1]; omega
  · show win0_1.index t 1 * 2304 + d.val = d.val
    rw [(index1 t).2]; omega

/-- Window 2's one block is the whole result. -/
theorem emb2 (t : Fin cfg0.N) (i : Fin 8192) (d : Fin 4096) :
    ((cfg0.win 2).blk t).view.emb (ix2 i d) = (ix2 i d : (⟨2, ![8192, 4096]⟩ : Shape).Idx) := by
  refine funext fun a => Fin.ext ?_
  refine (Window.rect_emb_val win0_2 t (ix2 i d) a).trans ?_
  fin_cases a
  · show win0_2.index t 0 * 8192 + i.val = i.val
    rw [(index2 t).1]; omega
  · show win0_2.index t 1 * 4096 + d.val = d.val
    rw [(index2 t).2]; omega

/-- Window 3's one block is the whole result. -/
theorem emb3 (t : Fin cfg0.N) (i : Fin 8192) (d : Fin 2304) :
    ((cfg0.win 3).blk t).view.emb (ix2 i d) = (ix2 i d : (⟨2, ![8192, 2304]⟩ : Shape).Idx) := by
  refine funext fun a => Fin.ext ?_
  refine (Window.rect_emb_val win0_3 t (ix2 i d) a).trans ?_
  fin_cases a
  · show win0_3.index t 0 * 8192 + i.val = i.val
    rw [(index3 t).1]; omega
  · show win0_3.index t 1 * 2304 + d.val = d.val
    rw [(index3 t).2]; omega

/-- The one point's write of the codes. -/
theorem flushed2 (t : Fin cfg0.N) : (dats m 0 c).flushed 2 t = k0_pay1 (F := Ideal) (iblk m c 0 t) := by
  show (cfg0.win 2).cut (grid0.coords t) ((dats m 0 c).after 2 t) = _
  rw [after0_2]
  unfold out0_2
  rw [View.canon_unit_zero hz, View.ld_unit_zero hz]
  rfl

/-- The one point's write of the product. -/
theorem flushed3 (t : Fin cfg0.N) : (dats m 0 c).flushed 3 t = k0_pay2 (F := Ideal) (iblk m c 0 t) (iblk m c 1 t) := by
  show (cfg0.win 3).cut (grid0.coords t) ((dats m 0 c).after 3 t) = _
  rw [after0_3]
  unfold out0_3
  rw [View.canon_unit_zero hz, View.ld_unit_zero hz, View.ld_unit_zero hz]
  rfl

/-- The call's codes at an index. -/
theorem codes_apply (r : Fin 8192) (d : Fin 4096) :
    reg_main_v40_0 m c (ix2 r d : (⟨2, ![8192, 4096]⟩ : Shape).Idx) = clip (A0 m c (ix2 r d)) := by
  refine (congrArg ((dats m 0 c).arrAt 2 cfg0.N) (emb2 t0_0 r d).symm).trans ?_
  refine ((dats m 0 c).arrAt_emb_eq_flushed 2
    (fun t t' _ _ h => absurd ((fin_N0 t).trans (fin_N0 t').symm) h) t0_0 (flush0_2 t0_0) (ix2 r d)).trans ?_
  refine (cast_eq _ _).trans ((congrFun (flushed2 m c t0_0) (ix2 r d)).trans ?_)
  refine (pay1_apply (iblk m c 0 t0_0) r d).trans ?_
  exact congrArg clip (blk0_apply m c t0_0 r d)

/-- The call's product at an index. -/
theorem dot_apply (r : Fin 8192) (n : Fin 2304) :
    reg_main_v40_1 m c (ix2 r n : (⟨2, ![8192, 2304]⟩ : Shape).Idx)
      = ∑ d : Fin 4096, clip (A0 m c (ix2 r d)) * A1 m c (ix2 d n) := by
  refine (congrArg ((dats m 0 c).arrAt 3 cfg0.N) (emb3 t0_0 r n).symm).trans ?_
  refine ((dats m 0 c).arrAt_emb_eq_flushed 3
    (fun t t' _ _ h => absurd ((fin_N0 t).trans (fin_N0 t').symm) h) t0_0 (flush0_3 t0_0) (ix2 r n)).trans ?_
  refine (cast_eq _ _).trans ((congrFun (flushed3 m c t0_0) (ix2 r n)).trans ?_)
  refine (pay2_apply (iblk m c 0 t0_0) (iblk m c 1 t0_0) r n).trans ?_
  exact Finset.sum_congr rfl fun d _ => congrArg₂ (fun p q : EReal => clip p * q) (blk0_apply m c t0_0 r d) (blk1_apply m c t0_0 d n)

end Cert.RefRegion
end
-- ==== Proof.RefSide.lean ====
/-
  The reference's five result arrays are those of `Result`, when no gain is above the largest f32 number.
-/
module
public import proofs.«01_k».proof.Proof.RefRegion
public import proofs.«01_k».proof.Proof.Result
@[expose] public section
noncomputable section
namespace Cert.RefSide
open Idealize.ShloMosaic Idealize.ShloMosaic.TcCoe
open Cert.ReferenceIdeal Cert.ReferenceIdeal.Gen Cert.ReferenceIdeal.Value
open scoped BigOperators

variable (m : (ℓ : Loc nD τ sig) → Buf (Elt Ideal) ℓ) (c : Dev nD)

/-- The tokens argument. -/
abbrev x : FVec Ideal S4x2048x4096 .bf16 := m ((c.tc : Thread nD τ).loc main_arg0)
/-- The positions argument. -/
abbrev p : IVec S4x2048 32 := m ((c.tc : Thread nD τ).loc main_arg1)
/-- The gains argument. -/
abbrev g : FVec Ideal S4096 .f32 := m ((c.tc : Thread nD τ).loc main_arg2)
/-- The weights argument. -/
abbrev w : FVec Ideal S4096x2304 .fp8e4m3 := m ((c.tc : Thread nD τ).loc main_arg3)
/-- The weights' scales argument. -/
abbrev ws : FVec Ideal S2304 .f32 := m ((c.tc : Thread nD τ).loc main_arg4)

/-- The tokens of four sequences as rows. -/
theorem merge_tokens (y : FVec Ideal S4x2048x4096 .f32) (r : Fin 8192) (d : Fin 4096) :
    shapeCast S8192x4096 y shapeCasts_S4x2048x4096_S8192x4096 (ix2 r d)
      = y (ix3 ⟨r.val / 2048, by omega⟩ ⟨r.val % 2048, by omega⟩ d) := by
  refine shapeCast_apply y shapeCasts_S4x2048x4096_S8192x4096 (ix2 r d) (ix3 ⟨r.val / 2048, by omega⟩ ⟨r.val % 2048, by omega⟩ d) ?_
  rw [Shape.rowMajor_val_two, Shape.rowMajor_val_three]
  show ((r.val / 2048) * 2048 + r.val % 2048) * 4096 + d.val = r.val * 4096 + d.val
  omega

/-- The scaled input that the kernel call reads, at an index. -/
theorem scaled_apply (r : Fin 8192) (d : Fin 4096) : RefRegion.A0 m c (ix2 r d)
    = Row.h (Result.tok (x m c) r) (RefHead.gains (g m c)) d
      * Scale.rInv (Row.amax (Result.tok (x m c) r) (RefHead.gains (g m c))) (Row.amaxT (Result.tok (x m c) r) (RefHead.gains (g m c))) :=
  (congrFun (RefHead.entry_scaled m c) _).trans
    ((merge_tokens _ r d).trans (RefHead.hsV_apply (x m c) (g m c) _ _ d))

/-- A token's codes times a column of the weights. -/
def dot (x : FVec Ideal S4x2048x4096 .bf16) (g : FVec Ideal S4096 .f32) (w : FVec Ideal S4096x2304 .fp8e4m3)
    (r : Fin 8192) (n : Fin 2304) : EReal :=
  ∑ d : Fin 4096, Row.code (Result.tok x r) (RefHead.gains g) d * w (ix2 d n)

variable (hG : ∀ d, max (RefHead.gains (g m c) d) (-(RefHead.gains (g m c) d)) ≤ Ideal.ofBits .f32 0x7F7FFFFF#32)
include hG

/-- A code of the kernel call. -/
theorem clip_scaled (r : Fin 8192) (d : Fin 4096) :
    RefRegion.clip (RefRegion.A0 m c (ix2 r d)) = Row.code (Result.tok (x m c) r) (RefHead.gains (g m c)) d := by
  rw [scaled_apply, ← (Row.scale_eq (Result.tok (x m c) r) (RefHead.gains (g m c)) hG).2]
  rfl

/-- The codes. -/
theorem codes : reg_main_v40_0 m c = Result.codes (x m c) (g m c) :=
  Result.ext2 (a := 8192) (b := 4096) _ _ fun r d => (RefRegion.codes_apply m c r d).trans (clip_scaled m c hG r d)

/-- The product at an index. -/
theorem dot_apply (r : Fin 8192) (n : Fin 2304) :
    reg_main_v40_1 m c (ix2 r n : (⟨2, ![8192, 2304]⟩ : Shape).Idx)
      = dot (x m c) (g m c) (w m c) r n :=
  have e : (∑ d : Fin 4096, RefRegion.clip (RefRegion.A0 m c (ix2 r d)) * RefRegion.A1 m c (ix2 d n) : EReal)
      = dot (x m c) (g m c) (w m c) r n := Finset.sum_congr rfl fun d _ =>
    congrArg₂ (fun a b : EReal => a * b) (clip_scaled m c hG r d) (congrFun (V_main_arg3 m c) (ix2 d n : S4096x2304.Idx))
  (RefRegion.dot_apply m c r n).trans e

/-- The scales before they are laid out, at a token. -/
theorem scale_apply (r : Fin 8192) : (exitV m c (Proc.devRef .tc main_v33) : FVec Ideal S4x2048x1 .f32)
      (ix3 ⟨r.val / 2048, by omega⟩ ⟨r.val % 2048, by omega⟩ 0) = Row.scale (Result.tok (x m c) r) (RefHead.gains (g m c)) :=
  (congrFun (RefHead.exit_scale m c) _).trans
    ((RefHead.sV_apply (x m c) (g m c) _ _).trans (Row.scale_eq (Result.tok (x m c) r) (RefHead.gains (g m c)) hG).1.symm)

/-- The scales. -/
theorem scales : Read.val_main_v101 (F := Ideal) (exitV m c (Proc.devRef .tc main_v33)) = Result.scales (x m c) (g m c) :=
  Result.ext2 (a := 8192) (b := 1) _ _ fun r j => by
    obtain rfl : j = 0 := Subsingleton.elim _ _
    exact (RefTail.s_apply _ r).trans (scale_apply m c hG r)

/-- A token's scaled projection. -/
theorem proj_eq (r : Fin 8192) :
    RefTail.y (exitV m c (Proc.devRef .tc main_arg4)) (exitV m c (Proc.devRef .tc main_v40_1)) (exitV m c (Proc.devRef .tc main_v33))
        ⟨r.val / 2048, by omega⟩ ⟨r.val % 2048, by omega⟩
      = Result.proj (x m c) (g m c) (w m c) (ws m c) r :=
  funext fun n => (RefTail.y_apply _ _ _ r n).trans (congrArg₂ (fun a b : EReal => a * b)
    (congrArg₂ (fun a b : EReal => a * b)
      ((congrFun (exit_main_v40_1 m c) (ix2 r n : S8192x2304.Idx)).trans (dot_apply m c hG r n)) (scale_apply m c hG r))
    (congrFun (exit_main_arg4 m c) (ix1 n : S2304.Idx)))

/-- The queries. -/
theorem queries : Read.val_main_v98 (F := Ideal) (exitV m c (Proc.devRef .tc main_arg1)) (exitV m c (Proc.devRef .tc main_arg4))
      (exitV m c (Proc.devRef .tc main_v40_1)) (exitV m c (Proc.devRef .tc main_v33))
    = Result.queries (x m c) (p m c) (g m c) (w m c) (ws m c) :=
  Result.ext2 (a := 8192) (b := 2048) _ _ fun r n => by
    refine (RefTail.q_apply _ _ _ _ r n).trans ?_
    rw [proj_eq m c hG, exit_main_arg1]
    rfl

/-- The keys. -/
theorem keys : Read.val_main_v99 (F := Ideal) (exitV m c (Proc.devRef .tc main_arg1)) (exitV m c (Proc.devRef .tc main_arg4))
      (exitV m c (Proc.devRef .tc main_v40_1)) (exitV m c (Proc.devRef .tc main_v33))
    = Result.keys (x m c) (p m c) (g m c) (w m c) (ws m c) :=
  Result.ext2 (a := 8192) (b := 128) _ _ fun r j => by
    refine (RefTail.k_apply _ _ _ _ r j).trans ?_
    rw [proj_eq m c hG, exit_main_arg1]
    rfl

/-- The values. -/
theorem values : Read.val_main_v100 (F := Ideal) (exitV m c (Proc.devRef .tc main_arg4))
      (exitV m c (Proc.devRef .tc main_v40_1)) (exitV m c (Proc.devRef .tc main_v33))
    = Result.values (x m c) (g m c) (w m c) (ws m c) :=
  Result.ext2 (a := 8192) (b := 128) _ _ fun r j => by
    refine (RefTail.v_apply _ _ _ r j).trans ?_
    rw [proj_eq m c hG]
    rfl

end Cert.RefSide
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelBlocks
public import proofs.«01_k».proof.Proof.Gen.ReferenceIdeal.Run
public import proofs.«01_k».proof.Proof.Gen.ReferenceIdeal.Read
public import proofs.«01_k».proof.Proof.Gen.Pre_gain_in_f32_range
public import proofs.«01_k».proof.Proof.KernelSide
public import proofs.«01_k».proof.Proof.RefSide
public import Idealize.ShloMosaic.Adequacy
public import Idealize.ShloMosaic.Init

@[expose] public section

noncomputable section

namespace Cert.Proof

open Idealize.ShloMosaic Idealize.SL.Sem Cert.Kernel

/-- The precondition at an index: a comparison that holds is an inequality. -/
theorem le_of_cmp {S : Shape} (g b : FVec Ideal S .f32) (j : S.Idx) (h : cmpf .ole (Host.absf g) b j = 1#1) :
    max (g j) (-(g j)) ≤ b j := by
  have h1 : BitVec.ofBool (decide (max (g j) (-(g j)) ≤ b j)) = 1#1 := h
  by_contra hn
  rw [decide_eq_false hn] at h1
  exact absurd h1 (by decide)

/-- A broadcast constant at an index. -/
theorem constant_apply {S : Shape} (hS : (⟨0, ![]⟩ : Shape).BroadcastsInDim S (![] : Fin 0 → Fin S.rank)) (k : BitVec 32) (j : S.Idx) :
    (broadcastInDim S ![] hS (constant ⟨0, ![]⟩ .f32 k) : FVec Ideal S .f32) j = Ideal.ofBits .f32 k := rfl

/-- Under the precondition no gain is above the largest f32 number. -/
theorem gain_le (x : FVec Ideal Cert.KernelIdeal.S4x2048x4096 .bf16) (p : IVec Cert.KernelIdeal.S4x2048 32)
    (g : FVec Ideal Cert.KernelIdeal.S4096 .f32) (w : FVec Ideal Cert.KernelIdeal.S4096x2304 .fp8e4m3)
    (ws : FVec Ideal Cert.KernelIdeal.S2304 .f32)
    (h : Cert.Pre_gain_in_f32_range.fn (F := Ideal) x p g w ws = fun _ => 1#1) (d : Fin 4096) :
    max (Cert.RefHead.gains g d) (-(Cert.RefHead.gains g d)) ≤ Ideal.ofBits .f32 0x7F7FFFFF#32 := by
  refine (le_of_cmp g _ (ix1 d) (congrFun h (ix1 d))).trans_eq ?_
  exact constant_apply _ _ _

/-- The kernel and the reference end with equal results: both end with those of `Result` on the same arguments. -/
theorem algebraic : Cert.algebraic_KernelIdeal_ReferenceIdeal_pre_gain_in_f32_range := by
  intro m ρ m' ρ' hPre hArgs
  refine ⟨fun c => Cert.Result.queries (Cert.KernelSide.x m c) (Cert.KernelSide.p m c) (Cert.KernelSide.g m c) (Cert.KernelSide.w m c) (Cert.KernelSide.ws m c),
    fun c => Cert.Result.keys (Cert.KernelSide.x m c) (Cert.KernelSide.p m c) (Cert.KernelSide.g m c) (Cert.KernelSide.w m c) (Cert.KernelSide.ws m c),
    fun c => Cert.Result.values (Cert.KernelSide.x m c) (Cert.KernelSide.g m c) (Cert.KernelSide.w m c) (Cert.KernelSide.ws m c),
    fun c => Cert.Result.codes (Cert.KernelSide.x m c) (Cert.KernelSide.g m c),
    fun c => Cert.Result.scales (Cert.KernelSide.x m c) (Cert.KernelSide.g m c), ?_, ?_⟩
  · refine (θ_run _ _ _).mono (fun r h c => ?_) (Cert.KernelIdeal.Value.run_blocks (F := Ideal) m ρ)
    obtain ⟨h0, h1, h2, h3, h4, hargs⟩ := h c
    exact ⟨h0.trans (Cert.KernelSide.queries m c), h1.trans (Cert.KernelSide.keys m c), h2.trans (Cert.KernelSide.values m c),
      h3.trans (Cert.KernelSide.codes m c), h4.trans (Cert.KernelSide.scales m c), hargs⟩
  · refine (θ_run _ _ _).mono (fun r h c => ?_) (Cert.ReferenceIdeal.Value.run (F := Ideal) m' ρ')
    obtain ⟨h0, h1, h2, h3, h4, hargs⟩ := h c
    obtain ⟨a0, a1, a2, a3, a4⟩ := hArgs c
    have hx : Cert.RefSide.x m' c = Cert.KernelSide.x m c := a0
    have hp : Cert.RefSide.p m' c = Cert.KernelSide.p m c := a1
    have hg : Cert.RefSide.g m' c = Cert.KernelSide.g m c := a2
    have hw : Cert.RefSide.w m' c = Cert.KernelSide.w m c := a3
    have hws : Cert.RefSide.ws m' c = Cert.KernelSide.ws m c := a4
    have hG : ∀ d, max (Cert.RefHead.gains (Cert.RefSide.g m' c) d) (-(Cert.RefHead.gains (Cert.RefSide.g m' c) d))
        ≤ Ideal.ofBits .f32 0x7F7FFFFF#32 := by
      rw [hg]
      exact gain_le _ _ _ _ _ (hPre c)
    have q := Cert.RefSide.queries m' c hG
    have k := Cert.RefSide.keys m' c hG
    have v := Cert.RefSide.values m' c hG
    have e := Cert.RefSide.codes m' c hG
    have s := Cert.RefSide.scales m' c hG
    rw [hx, hp, hg, hw, hws] at q k
    rw [hx, hg, hw, hws] at v
    rw [hx, hg] at e s
    exact ⟨h0.trans ((Cert.ReferenceIdeal.Read.val_main_v98_eq _).trans q), h1.trans ((Cert.ReferenceIdeal.Read.val_main_v99_eq _).trans k),
      h2.trans ((Cert.ReferenceIdeal.Read.val_main_v100_eq _).trans v), h3.trans e,
      h4.trans ((Cert.ReferenceIdeal.Read.val_main_v101_eq _).trans s), hargs⟩

/-- The certificate: the side conditions, the frames, the idealization and the equality of the results. -/
theorem claim : Cert.Claim := ⟨Cert.Kernel.Gen.facts, Cert.KernelIdeal.Gen.facts, Cert.ReferenceIdeal.Gen.facts, Cert.Pre_gain_in_f32_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
